-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_ReferenceIdeal.lean ====
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  main_v3
-- ==== Kernel.lean ====
abbrev S1024x1024 : Shape := ⟨2, ![1024, 1024]⟩
abbrev S4x8x128 : Shape := ⟨3, ![4, 8, 128]⟩
abbrev S3 : Shape := ⟨1, ![3]⟩
abbrev S4 : Shape := ⟨1, ![4]⟩
abbrev S8x128x1024 : Shape := ⟨3, ![8, 128, 1024]⟩
abbrev S8x128 : Shape := ⟨2, ![8, 128]⟩
abbrev S1x8x128 : Shape := ⟨3, ![1, 8, 128]⟩
abbrev S_ : Shape := ⟨0, ![]⟩
abbrev S1 : Shape := ⟨1, ![1]⟩
abbrev S8x128x1 : Shape := ⟨3, ![8, 128, 1]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S4x8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32 : BitVec 32 := 0#32
  let v15 : BitVec 1 := Scalar.cmpi .eq c4_i32_7 c0_i32
  let c1_i32_8 : BitVec 32 := 1#32
  let v16 : BitVec 32 := Scalar.select v15 c1_i32_8 c4_i32_7
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_13 : BitVec 32 := 1#32
  let v25 : BitVec 32 := Scalar.muli v24 c1_i32_13
  let v26 : BitVec 32 := Scalar.addi c0_i32_14 v25
  v26.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 32 := Scalar.addi v2 c2_i32
  let c4_i32_15 : BitVec 32 := 4#32
  let c0_i32_16 : BitVec 32 := 0#32
  let v28 : BitVec 1 := Scalar.cmpi .eq c4_i32_15 c0_i32_16
  let c1_i32_17 : BitVec 32 := 1#32
  let v29 : BitVec 32 := Scalar.select v28 c1_i32_17 c4_i32_15
  let v30 : BitVec 32 := Scalar.remsi v27 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c1_i32_22 : BitVec 32 := 1#32
  let v38 : BitVec 32 := Scalar.muli v37 c1_i32_22
  let v39 : BitVec 32 := Scalar.addi c0_i32_23 v38
  v39.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_24 : BitVec 32 := 4#32
  let c0_i32_25 : BitVec 32 := 0#32
  let v41 : BitVec 1 := Scalar.cmpi .eq c4_i32_24 c0_i32_25
  let c1_i32_26 : BitVec 32 := 1#32
  let v42 : BitVec 32 := Scalar.select v41 c1_i32_26 c4_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c1_i32_31 : BitVec 32 := 1#32
  let v51 : BitVec 32 := Scalar.muli v50 c1_i32_31
  let v52 : BitVec 32 := Scalar.addi c0_i32_32 v51
  v52.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v53 : BitVec 32 := Scalar.addi v2 c1_i32_34
  let c4_i32_35 : BitVec 32 := 4#32
  let c0_i32_36 : BitVec 32 := 0#32
  let v54 : BitVec 1 := Scalar.cmpi .eq c4_i32_35 c0_i32_36
  let c1_i32_37 : BitVec 32 := 1#32
  let v55 : BitVec 32 := Scalar.select v54 c1_i32_37 c4_i32_35
  let v56 : BitVec 32 := Scalar.remsi v53 v55
  let c0_i32_39 : BitVec 32 := 0#32
  let v58 : BitVec 1 := Scalar.cmpi .slt v56 c0_i32_39
  let c0_i32_40 : BitVec 32 := 0#32
  let v59 : BitVec 1 := Scalar.cmpi .slt v55 c0_i32_40
  let v60 : BitVec 1 := Scalar.xori v58 v59
  let c0_i32_38 : BitVec 32 := 0#32
  let v57 : BitVec 1 := Scalar.cmpi .ne v56 c0_i32_38
  let v61 : BitVec 1 := Scalar.andi v60 v57
  let v62 : BitVec 32 := Scalar.addi v56 v55
  let v63 : BitVec 32 := Scalar.select v61 v62 v56
  let c1_i32_45 : BitVec 32 := 1#32
  let v64 : BitVec 32 := Scalar.muli v63 c1_i32_45
  let v65 : BitVec 32 := Scalar.addi c0_i32_46 v64
  v65.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v74 : BitVec 32 := Scalar.addi v2 c2_i32_51
  let c4_i32_52 : BitVec 32 := 4#32
  let c0_i32_53 : BitVec 32 := 0#32
  let v75 : BitVec 1 := Scalar.cmpi .eq c4_i32_52 c0_i32_53
  let c1_i32_54 : BitVec 32 := 1#32
  let v76 : BitVec 32 := Scalar.select v75 c1_i32_54 c4_i32_52
  let v77 : BitVec 32 := Scalar.remsi v74 v76
  let c0_i32_56 : BitVec 32 := 0#32
  let v79 : BitVec 1 := Scalar.cmpi .slt v77 c0_i32_56
  let c0_i32_57 : BitVec 32 := 0#32
  let v80 : BitVec 1 := Scalar.cmpi .slt v76 c0_i32_57
  let v81 : BitVec 1 := Scalar.xori v79 v80
  let c0_i32_55 : BitVec 32 := 0#32
  let v78 : BitVec 1 := Scalar.cmpi .ne v77 c0_i32_55
  let v82 : BitVec 1 := Scalar.andi v81 v78
  let v83 : BitVec 32 := Scalar.addi v77 v76
  let v84 : BitVec 32 := Scalar.select v82 v83 v77
  let c1_i32_62 : BitVec 32 := 1#32
  let v85 : BitVec 32 := Scalar.muli v84 c1_i32_62
  let v86 : BitVec 32 := Scalar.addi c0_i32_63 v85
  v86.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_68 : BitVec 32 := 3#32
  let v95 : BitVec 32 := Scalar.addi v2 c3_i32_68
  let c4_i32_69 : BitVec 32 := 4#32
  let c0_i32_70 : BitVec 32 := 0#32
  let v96 : BitVec 1 := Scalar.cmpi .eq c4_i32_69 c0_i32_70
  let c1_i32_71 : BitVec 32 := 1#32
  let v97 : BitVec 32 := Scalar.select v96 c1_i32_71 c4_i32_69
  let v98 : BitVec 32 := Scalar.remsi v95 v97
  let c0_i32_73 : BitVec 32 := 0#32
  let v100 : BitVec 1 := Scalar.cmpi .slt v98 c0_i32_73
  let c0_i32_74 : BitVec 32 := 0#32
  let v101 : BitVec 1 := Scalar.cmpi .slt v97 c0_i32_74
  let v102 : BitVec 1 := Scalar.xori v100 v101
  let c0_i32_72 : BitVec 32 := 0#32
  let v99 : BitVec 1 := Scalar.cmpi .ne v98 c0_i32_72
  let v103 : BitVec 1 := Scalar.andi v102 v99
  let v104 : BitVec 32 := Scalar.addi v98 v97
  let v105 : BitVec 32 := Scalar.select v103 v104 v98
  let c1_i32_79 : BitVec 32 := 1#32
  let v106 : BitVec 32 := Scalar.muli v105 c1_i32_79
  let v107 : BitVec 32 := Scalar.addi c0_i32_80 v106
  v107.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x4096 : Shape := ⟨2, ![1024, 4096]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x4096, .f32⟩
  | .hbm, ⟨11, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Slots.lean ====
/-
# The four slots of the communication scratch

Each device keeps a scratch of four slots, one per device: slot 0 holds its own row sums, slot `k + 1` the row
sums of the device `k + 1` places ahead of it. Here are the facts about one slot, stated once for all four:
which elements it has, what a load from it, a store to it and a copy between two of them do, and how the whole
scratch is taken apart into its slots and put together again.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Ring
public import Idealize.ShloMosaic.Lib.Ring.Trips
public import Idealize.ShloMosaic.Lib.Tactic

@[expose] public section

noncomputable section

namespace Cert.KernelIdeal.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

abbrev inM : Memref sig .tc .vmem S1024x1024 .f32 := Memref.whole cc0_stg0_0
abbrev outM : Memref sig .tc .vmem S1024x1024 .f32 := Memref.whole cc0_stg1_0
abbrev scrM : Memref sig .tc .vmem S4x8x128 .f32 := Memref.whole cc0_scratch0

/-- Every slot lies inside the scratch. -/
theorem slot_inb (s : Fin 4) : ∀ a, (![s.val, 0, 0] : Fin 3 → Nat) a + S1x8x128.size a ≤ S4x8x128.size a := by
  revert s; decide

/-- The rectangle of slot `s` in the scratch, -/
abbrev slotR (s : Fin 4) : Rect S4x8x128 := Rect.unit (s := S4x8x128) ![s.val, 0, 0] S1x8x128.size (slot_inb s)

/-- and the slot as the memref a copy names. -/
abbrev slotM (s : Fin 4) : Memref sig .tc .vmem S8x128 .f32 :=
  (scrM.slice (slotR s) (fun _ => rfl)).squeeze S8x128 squeezes_S1x8x128_S8x128

/-- What one slot's copy counts for on a semaphore. -/
abbrev N : ℕ := (slotM 0).view.dmaCredit
theorem N_pos : 0 < N := View.dmaCredit_pos _ (by decide)

/-! ## The elements of a slot -/

/-- The elements of slot `s` are those with first coordinate `s`. -/
theorem mem_slotR {s : Fin 4} {i : S4x8x128.Idx} : i ∈ (slotR s).set ↔ (i 0 : Nat) = s.val := by
  rw [LoadRect.mem_set]
  constructor
  · intro h
    obtain ⟨j, hj, he⟩ := h 0
    have hj' : j < 1 := hj
    have he' : (i 0 : Nat) = s.val + 1 * j := he
    omega
  · intro h a
    have h1 : (i 1 : Nat) < 8 := (i 1).isLt
    have h2 : (i 2 : Nat) < 128 := (i 2).isLt
    fin_cases a
    · exact ⟨0, Nat.one_pos, by show (i 0 : Nat) = s.val + 1 * 0; omega⟩
    · exact ⟨i 1, h1, by show (i 1 : Nat) = 0 + 1 * (i 1 : Nat); omega⟩
    · exact ⟨i 2, h2, by show (i 2 : Nat) = 0 + 1 * (i 2 : Nat); omega⟩

/-- A copy's memref of a slot names the elements of the slot's rectangle. -/
theorem slotM_set (s : Fin 4) : (slotM s).view.set = (slotR s).set := by
  show (((View.whole cc0_scratch0).slice (slotR s)).reshape S8x128 _).set = _
  rw [View.set_reshape, View.set_slice_whole]

/-- Two different slots share no element, -/
theorem slots_disjoint (s t : Fin 4) (h : s ≠ t) : Disjoint (slotR s).set (slotR t).set :=
  Finset.disjoint_left.mpr fun i hs ht => h (Fin.ext ((mem_slotR.mp hs).symm.trans (mem_slotR.mp ht)))

/-- and the four slots are the whole scratch. -/
theorem slots_cover : Finset.univ.biUnion (fun s => (slotR s).set) = (Finset.univ : Finset S4x8x128.Idx) :=
  Finset.eq_univ_iff_forall.mpr fun i =>
    Finset.mem_biUnion.mpr ⟨⟨i 0, (i 0).isLt⟩, Finset.mem_univ _, mem_slotR.mpr rfl⟩

/-! ## Contents -/

/-- Where an element of the scratch stands inside its slot. -/
def inSlot (i : S4x8x128.Idx) : S1x8x128.Idx := fun a => match a with
  | ⟨0, _⟩ => (⟨0, Nat.one_pos⟩ : Fin 1) | ⟨1, _⟩ => i 1 | ⟨2, _⟩ => i 2

/-- The scratch every slot of which holds `v`. -/
def fill (v : Vec F S1x8x128 .f32) : (cc0_scratch0 : Ref sig .tc).ty.Contents (Elt F) := fun i => v (inSlot i)

/-- The place inside slot `s` of the slot's element `x` is `x`. -/
theorem inSlot_idx (s : Fin 4) (x : S1x8x128.Idx) : inSlot ((slotR s).idx x) = x := by
  funext a
  apply Fin.ext
  have h0 : (x 0 : Nat) < 1 := (x 0).isLt
  fin_cases a
  · show 0 = (x 0 : Nat); omega
  · show 0 + 1 * (x 1 : Nat) = (x 1 : Nat); omega
  · show 0 + 1 * (x 2 : Nat) = (x 2 : Nat); omega

/-- A load of any slot of `fill v` gives `v`. -/
theorem readAt_fill (s : Fin 4) (v : Vec F S1x8x128 .f32) : scrM.view.readAt (Elt F) (slotR s).toLoadRect (fill v) = v :=
  funext fun x => congrArg v (inSlot_idx s x)

/-- Storing `v` to a slot makes the slot what it is in `fill v`. -/
theorem store_fill (s : Fin 4) (f : (cc0_scratch0 : Ref sig .tc).ty.Contents (Elt F)) (v : Vec F S1x8x128 .f32) :
    ∀ i ∈ (slotR s).set, (scrM.access (slotR s)).write (Elt F) f v Finset.univ i = fill v i := by
  intro i hi
  obtain ⟨x, rfl⟩ := (slotR s).exists_idx_of_mem hi
  refine (View.write_emb_of_mem (v := scrM.access (slotR s)) (Val := Elt F) f v (Finset.mem_univ x)).trans ?_
  exact (congrArg v (inSlot_idx s x)).symm

/-- Copying a slot of `fill v` onto another slot makes that slot what it is in `fill v`. -/
theorem copy_fill (s t : Fin 4) (f : (cc0_scratch0 : Ref sig .tc).ty.Contents (Elt F)) (v : Vec F S1x8x128 .f32) :
    ∀ i ∈ (slotM t).view.set,
      (slotM t).view.write (Elt F) f ((slotM s).view.read (Elt F) (fill v)) Finset.univ i = fill v i := by
  intro i hi
  obtain ⟨y, -, rfl⟩ := Finset.mem_map.mp hi
  refine (View.write_emb_of_mem (v := (slotM t).view) (Val := Elt F) f _ (Finset.mem_univ y)).trans ?_
  show v (inSlot ((slotR s).idx _)) = v (inSlot ((slotR t).idx _))
  rw [inSlot_idx, inSlot_idx]

end Cert.KernelIdeal.Softmax

end
-- ==== Proof.Protocol.lean ====
/-
# The exchange of row sums: who signals, sends and waits for what

Every device does the same with each of its three peers. It tells the peer `k + 1` places ahead that the slot
`k + 1` of its own scratch may be written; once all three peers have told it the same, it copies its slot 0 to
each of them; then it waits for its three copies to have left and the three copies meant for it to have arrived.
This module states that schedule for a peer `k : Fin 3` at a device `c`, the order in which the waits may happen,
and what a device holds before and after.
-/
module

public import proofs.«01_k».proof.Proof.Slots
public import Idealize.ShloMosaic.Lib.Pipeline.Launch
public import Idealize.ShloMosaic.Lib.Pipeline.Kit

@[expose] public section

noncomputable section

namespace Cert.KernelIdeal.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The peers -/

set_option backward.proofsInPublic true in
/-- The device `k + 1` places after `c`. -/
def peer (k : Fin 3) (c : Dev nD) : Dev nD := ⟨(c.val + k.val + 1) % 4, Nat.mod_lt _ (by decide)⟩

/-- Going `k + 1` places on and then the remaining ones comes back. -/
theorem peer_rev (k : Fin 3) (c : Dev nD) : peer k.rev (peer k c) = c := by revert k c; decide
/-- The same, in the other order. -/
theorem rev_peer (k : Fin 3) (c : Dev nD) : peer k (peer k.rev c) = c := by revert k c; decide

/-- The devices renamed by going `k + 1` places on. -/
def turn (k : Fin 3) : Dev nD ≃ Dev nD := ⟨peer k, peer k.rev, peer_rev k, rev_peer k⟩

/-- The three signals go to the three peers in order, -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
/-- and so do the three copies. -/
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ## The semaphores -/

/-- The runtime's barrier semaphore; -/
abbrev barS : Sem sig := (SemArray.scalar (sig.barrier 0 rfl) : Sems sig S_).sem
set_option backward.proofsInPublic true in
/-- the one that tells that the copy to peer `k` has left; -/
abbrev sendS (k : Fin 3) : DmaSem sig := ⟨2 + k.val, by have := k.isLt; show 2 + k.val < 9; omega⟩
set_option backward.proofsInPublic true in
/-- the one that tells that peer `k`'s row sums have arrived. -/
abbrev recvS (k : Fin 3) : DmaSem sig := ⟨6 + k.val, by have := k.isLt; show 6 + k.val < 9; omega⟩
set_option backward.proofsInPublic true in
/-- The one the kernel declares and never uses. -/
abbrev idleS : DmaSem sig := ⟨5, by decide⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-! ## Contents -/

/-- The input block device `c` reads. -/
def xstg (c : Dev nD) : (cc0_stg0_0 : Ref sig .tc).ty.Contents (Elt F) :=
  (win0_0.blk (0 : Fin 1)).view.read (Elt F) ((s₀ m ρ).mem ((c : Thread nD τ).loc main_arg0))

/-- The row sums of device `c`, -/
def sums (c : Dev nD) : Vec F S1x8x128 .f32 := k0_pay3 (xstg m ρ c)

/-- and the result it computes: its exponentials over the sum of all four devices' row sums. -/
def outAt (c : Dev nD) : (cc0_stg1_0 : Ref sig .tc).ty.Contents (Elt F) :=
  k0_pay4 (sums m ρ c) (sums m ρ (peer 0 c)) (sums m ρ (peer 1 c)) (sums m ρ (peer 2 c)) (k0_pay2 (xstg m ρ c))

/-- Slot `s` of device `c`'s scratch held at share `q`, its elements as in `f`. -/
def slotPts (c : Dev nD) (s : Fin 4) (q : PosShare TreeShare) (f : (cc0_scratch0 : Ref sig .tc).ty.Contents (Elt F)) : sProp 𝕄 :=
  (slotM s).view.loc (c : Thread nD τ) ↦[(slotM s).view.set]{q} f

omit [FloatOps F] in
instance slotPts_storable (c : Dev nD) (s : Fin 4) (q) (f) : BI.Storable (upEmb : UEmb _ 𝕄) (slotPts (F := F) c s q f) := by
  unfold slotPts; infer_instance

/-- The same, over the elements of the slot's rectangle of the scratch. -/
theorem slotPts_eq (c : Dev nD) (s : Fin 4) (q) (f : (cc0_scratch0 : Ref sig .tc).ty.Contents (Elt F)) :
    slotPts c s q f = (((c : Thread nD τ).loc cc0_scratch0) ↦[(slotR s).set]{q} f : sProp 𝕄) := by
  unfold slotPts; rw [slotM_set]

/-- Only a slot's own elements count. -/
theorem slotPts_congr (c : Dev nD) (s : Fin 4) (q) {f g : (cc0_scratch0 : Ref sig .tc).ty.Contents (Elt F)}
    (h : ∀ i ∈ (slotM s).view.set, f i = g i) : (slotPts c s q f : sProp 𝕄) = slotPts c s q g := by
  unfold slotPts; exact pointsTo_congr h

/-- The whole scratch is its four slots. -/
theorem scratch_slots (c : Dev nD) (f : (cc0_scratch0 : Ref sig .tc).ty.Contents (Elt F)) :
    (((c : Thread nD τ).loc cc0_scratch0) ↦{fullShare} f : sProp 𝕄) = bigSep Finset.univ fun s => slotPts c s fullShare f := by
  rw [Ring.pointsTo_blocks (ℓ := (c : Thread nD τ).loc cc0_scratch0) (fun s => (slotR s).set) slots_disjoint slots_cover]
  exact bigSep_congr fun s _ => (slotPts_eq c s _ f).symm

/-- Four slots, each with contents of its own, are the whole scratch at some contents. -/
theorem slots_scratch (c : Dev nD) (fs : Fin 4 → (cc0_scratch0 : Ref sig .tc).ty.Contents (Elt F)) :
    (bigSep Finset.univ fun s => slotPts c s fullShare (fs s))
      ⊢ (iprop(∃ f, ((c : Thread nD τ).loc cc0_scratch0) ↦{fullShare} f) : sProp 𝕄) := by
  refine BI.Entails.trans (Entails.of_eq (bigSep_congr fun s _ => slotPts_eq c s _ (fs s))) ?_
  exact Ring.pointsTo_blocks_join (ℓ := (c : Thread nD τ).loc cc0_scratch0) (fun s => (slotR s).set) slots_disjoint slots_cover fs (fs 0)

/-! ## The schedule -/

/-- What the barrier signal of the peer that has `c` as its peer `k` hands to `c`: that peer's slot `k + 1`, to be
    written. -/
def barPay (c : Dev nD) (k : Fin 3) : sProp 𝕄 := iprop(∃ f, slotPts (F := F) (peer k.rev c) k.succ fullShare f)
/-- What the departed copy to peer `k` gives back: the part of slot 0 it was read from. -/
def sendPay (c : Dev nD) (k : Fin 3) : sProp 𝕄 := slotPts c 0 (Ring.shares3 fullShare k) (fill (sums m ρ c))
/-- What an arrived copy gives: slot `k + 1` with the row sums of peer `k`. -/
def recvPay (c : Dev nD) (k : Fin 3) : sProp 𝕄 := slotPts c k.succ fullShare (fill (sums m ρ (peer k c)))

/-- One round: a barrier has one duty for each peer, of one unit; a send or receive semaphore one duty, of a slot's
    count. -/
def sched : Rounds.Schedule (GSem nD τ sig) (Fin 3) 𝕄 where
  duties g r := if r = 0 ∧ g.1.2 = .tc then
      (match g.2 with
        | .reg _ => Finset.univ
        | .dma q => if 2 ≤ q.val ∧ q.val ≠ 5 then {0} else ∅)
    else ∅
  unitless _ := False
  amount g _ _ := match g.2 with
    | .reg _ => 1
    | .dma _ => N
  payload g _ d := match g.2 with
    | .reg _ => barPay g.1.1 d
    | .dma q => if q.val < 5 then sendPay m ρ g.1.1 (Fin.ofNat 3 (q.val - 2)) else recvPay m ρ g.1.1 (Fin.ofNat 3 (q.val - 6))
  amount_pos g _ _ _ := by
    split
    · exact Nat.one_pos
    · exact N_pos

instance sched_payload_storable (g : GSem nD τ sig) (r : ℕ) (d : Fin 3) :
    BI.Storable (upEmb : UEmb _ 𝕄) ((sched (F := F) m ρ).payload g r d) := by
  dsimp only [sched]
  unfold barPay sendPay recvPay
  (repeat' split) <;> infer_instance

section Sched
variable (c : Dev nD) (k d : Fin 3)

theorem duties_bar : (sched (F := F) m ρ).duties (barCell c) 0 = Finset.univ := rfl
theorem duties_send : (sched (F := F) m ρ).duties (sendCell c k) 0 = {0} := by fin_cases k <;> rfl
theorem duties_recv : (sched (F := F) m ρ).duties (recvCell c k) 0 = {0} := by fin_cases k <;> rfl
theorem duties_later (g : GSem nD τ sig) : ∀ r, 1 ≤ r → (sched (F := F) m ρ).duties g r = ∅ :=
  fun r hr => by dsimp only [sched]; rw [if_neg fun h => by omega]

theorem payload_bar : (sched (F := F) m ρ).payload (barCell c) 0 d = barPay c d := rfl
theorem payload_send : (sched (F := F) m ρ).payload (sendCell c k) 0 d = sendPay m ρ c k := by fin_cases k <;> rfl
theorem payload_recv : (sched (F := F) m ρ).payload (recvCell c k) 0 d = recvPay m ρ c k := by fin_cases k <;> rfl

/-- A barrier waits for three units, -/
theorem expect_bar : (sched (F := F) m ρ).expect (barCell c) 0 = 3 := rfl
/-- a send semaphore for one slot, -/
theorem expect_send : (sched (F := F) m ρ).expect (sendCell c k) 0 = N := by
  unfold Schedule.expect Schedule.amountOf; rw [duties_send, Finset.sum_singleton]; rfl
/-- and so a receive semaphore. -/
theorem expect_recv : (sched (F := F) m ρ).expect (recvCell c k) 0 = N := by
  unfold Schedule.expect Schedule.amountOf; rw [duties_recv, Finset.sum_singleton]; rfl

/-- All that a device gets at its barrier, -/
theorem rest_bar : bigSep ((sched (F := F) m ρ).duties (barCell c) 0 \ ∅) (fun d => (sched (F := F) m ρ).payload (barCell c) 0 d)
    = bigSep Finset.univ fun k => barPay c k := by
  rw [Finset.sdiff_empty]; rfl
/-- when a copy of its own has left, -/
theorem rest_send : bigSep ((sched (F := F) m ρ).duties (sendCell c k) 0 \ ∅) (fun d => (sched (F := F) m ρ).payload (sendCell c k) 0 d)
    = sendPay m ρ c k := by
  rw [Finset.sdiff_empty, duties_send, bigSep_singleton, payload_send]
/-- and when a copy for it has arrived. -/
theorem rest_recv : bigSep ((sched (F := F) m ρ).duties (recvCell c k) 0 \ ∅) (fun d => (sched (F := F) m ρ).payload (recvCell c k) 0 d)
    = recvPay m ρ c k := by
  rw [Finset.sdiff_empty, duties_recv, bigSep_singleton, payload_recv]

end Sched

/-! ## What a device owes, and in which order it may wait -/

/-- The dues of a list of cells and amounts, the first to be paid first. -/
def owe (l : List (GSem nD τ sig × ℕ)) : CellTallies nD τ sig Unit := l.foldr (fun p acc => acc + tallyAt p.1 () p.2) 0

/-- Paying the first due of a list leaves the rest. -/
theorem owe_cons (p : GSem nD τ sig × ℕ) (l : List (GSem nD τ sig × ℕ)) : owe (p :: l) = owe l + tallyAt p.1 () p.2 := rfl

/-- The unit owed to peer `k`'s barrier, -/
abbrev barDue (c : Dev nD) (k : Fin 3) : GSem nD τ sig × ℕ := (barCell (peer k c), 1)
/-- the copy owed to peer `k`, in whose view device `c` is the peer `k.rev`, -/
abbrev copyDue (c : Dev nD) (k : Fin 3) : GSem nD τ sig × ℕ := (recvCell (peer k c) k.rev, N)
/-- the copies a device owes after its barrier, -/
abbrev copies (c : Dev nD) : List (GSem nD τ sig × ℕ) := [copyDue c 0, copyDue c 1, copyDue c 2]
/-- and all it owes at the start. -/
abbrev todo (c : Dev nD) : List (GSem nD τ sig × ℕ) := barDue c 0 :: barDue c 1 :: barDue c 2 :: copies c

def L (g : GSem nD τ sig) : Finset Unit := if g.1.2 = .tc then {()} else ∅
/-- Staging and departure semaphores come first, then the barrier, then the arrivals. -/
def lv (g : GSem nD τ sig) (_ : Unit) : ℕ := match g.2 with
  | .reg _ => 1
  | .dma q => if q.val < 6 then 0 else 2

theorem L_of_ne (g : GSem nD τ sig) (h : g.1.2 ≠ .tc) : L g = ∅ := if_neg h
theorem L_tc (c : Dev nD) (sm : SemLoc sig) : L ((c : Thread nD τ), sm) = {()} := if_pos rfl

/-- The barrier's place in that order, -/
theorem lv_bar (c : Dev nD) : lv (barCell c) () = 1 := rfl
/-- and the arrivals'. -/
theorem lv_recv (c : Dev nD) (k : Fin 3) : lv (recvCell c k) () = 2 := if_neg (by show ¬ 6 + k.val < 6; omega)

/-- Only listed cells are owed. -/
theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    have h' : 0 < owe l g u + tallyAt p.1 () p.2 g u := h
    rcases Nat.eq_zero_or_pos (owe l g u) with h0 | h0
    · rw [h0, Nat.zero_add] at h'
      exact ⟨p, List.mem_cons_self, (Pipeline.tallyAt_pos h').1⟩
    · obtain ⟨p', hp', e⟩ := ih h0
      exact ⟨p', List.mem_cons_of_mem _ hp', e⟩

omit [FloatOps F] in
/-- A device may wait on a semaphore that comes before every one it still owes to. -/
theorem may_wait (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := owe_pos hg
      unfold L; rw [if_pos (h p hp).1]; exact Finset.mem_singleton_self _)
    (fun p hp => by rw [Finset.mem_singleton.mp hp])
    (fun g u hg => by
      obtain ⟨p, hp, rfl⟩ := owe_pos hg
      exact (h p hp).2)

/-- Any wait on a staging semaphore is allowed at the start, -/
theorem may_wait_start (c : Dev nD) (q : DmaSem sig) (hq : q.val < 6) :
    (levAts L lv : sProp 𝕄) ⊢ MayWait (c : Thread nD τ) (.dma q) () (owe (todo c)) :=
  may_wait c _ _ fun p hp => by
    have h0 : lv ((c : Thread nD τ), SemLoc.dma q) () = 0 := if_pos hq
    rw [h0]
    simp only [List.mem_cons, List.not_mem_nil, or_false] at hp
    rcases hp with rfl | rfl | rfl | rfl | rfl | rfl <;> refine ⟨rfl, ?_⟩ <;> first | (rw [lv_bar]; decide) | (rw [lv_recv]; decide)

/-- and the wait on the barrier once the signals are paid. -/
theorem may_wait_bar (c : Dev nD) :
    (levAts L lv : sProp 𝕄) ⊢ MayWait (c : Thread nD τ) (.reg barS) () (owe (copies c)) :=
  may_wait c _ _ fun p hp => by
    simp only [List.mem_cons, List.not_mem_nil, or_false] at hp
    rcases hp with rfl | rfl | rfl <;> refine ⟨rfl, ?_⟩ <;> (rw [lv_bar, lv_recv]; decide)

end Cert.KernelIdeal.Softmax

end
-- ==== Proof.Steps.lean ====
/-
# The steps of the exchange

What a device's body starts from and ends with, and one rule for each kind of step it takes: the signal to a
peer, the wait on the barrier, the copy to a peer, the wait for a copy to have left and the wait for one to have
arrived. Each rule is stated once, for a peer `k` of a device `c`.
-/
module

public import proofs.«01_k».proof.Proof.Protocol

@[expose] public section

noncomputable section

namespace Cert.KernelIdeal.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells, numbered -/

/-- A device's cells: the barrier, and for each peer the send semaphore and the receive semaphore. -/
abbrev CellIx : Type := Unit ⊕ Fin 3 ⊕ Fin 3

abbrev csem : CellIx → SemLoc sig
  | .inl _ => .reg barS
  | .inr (.inl k) => .dma (sendS k)
  | .inr (.inr k) => .dma (recvS k)
abbrev kcell (ck : Dev nD × CellIx) : GSem nD τ sig := ((ck.1 : Thread nD τ), csem ck.2)

/-! ## What a device holds of its dealings with peer `k` -/

variable (K : Dev nD × CellIx → ℕ)

/-- What is known for good: the invariants of the two cells of the peer that device `c` adds to, and of its own two;
    and that all of them have begun. -/
def laneInv (c : Dev nD) (k : Fin 3) : sProp 𝕄 :=
  iprop((cellInv ER (sched m ρ) (K (peer k c, .inl ())) (barCell (peer k c))
      ∗ cellInv ER (sched m ρ) (K (peer k c, .inr (.inr k.rev))) (recvCell (peer k c) k.rev)
      ∗ cellInv ER (sched m ρ) (K (c, .inr (.inl k))) (sendCell c k)
      ∗ cellInv ER (sched m ρ) (K (c, .inr (.inr k))) (recvCell c k))
    ∗ reached ER (barCell (peer k c)) 0 ∗ reached ER (recvCell (peer k c) k.rev) 0 ∗ reached ER (sendCell c k) 0)

instance laneInv_persistent (c : Dev nD) (k : Fin 3) : BI.Persistent (laneInv m ρ K c k) := by
  unfold laneInv; infer_instance

/-- What is spent: the right to signal the peer's barrier, to fill its slot and to report the copy's departure; and the
    places of device `c` at its own two cells. -/
def laneTok (c : Dev nD) (k : Fin 3) : sProp 𝕄 :=
  iprop((dutyTok ER (barCell (peer k c)) 0 k ∗ dutyTok ER (recvCell (peer k c) k.rev) 0 0 ∗ dutyTok ER (sendCell c k) 0 0)
    ∗ atPos ER (sendCell c k) 0 ∅ 0 ∗ atPos ER (recvCell c k) 0 ∅ 0)

/-- The dues of the list `l`, whatever has been waited for so far. -/
def dues (c : Dev nD) (l : List (GSem nD τ sig × ℕ)) : sProp 𝕄 := iprop(∃ W, owes (c : Thread nD τ) (owe l) W)

/-! ## The rules -/

section Rules

/-- The signal to peer `k`: device `c` lets the peer write its slot `k + 1`. -/
theorem step_signal {α : Type} {Kt : α → sProp 𝕄} {p : PUnit → Prog (TpuEff nD τ sig (Elt F) Λ₀ .tc) α}
    (c : Dev nD) (k : Fin 3) (n : Dev nD) (hn : n = peer k c) (a : ℕ) (ha : 1 = a)
    (l : List (GSem nD τ sig × ℕ)) (f : (cc0_scratch0 : Ref sig .tc).ty.Contents (Elt F)) :
    iprop(laneInv m ρ K c k ∗ dues c (barDue c k :: l) ∗ dutyTok ER (barCell (peer k c)) 0 k ∗ slotPts c k.succ fullShare f)
      ⊢ iprop((dues c l -∗ wp frame (wpE (defs₀ (F := F)) 𝒱₀ (c : Thread nD τ) none) Set.univ (p ⟨⟩) Kt)
          -∗ wp frame (wpE (defs₀ (F := F)) 𝒱₀ (c : Thread nD τ) none) Set.univ
              (.op (.semSignal (Dev.tc n : Thread nD τ) barS a) p) Kt) := by
  subst hn ha
  unfold laneInv dues
  iintro ⟨⟨⟨#HI, -, -, -⟩, #HR, -, -⟩, ⟨%W, HO⟩, Ht, Hs⟩ Hk
  iapply (Rounds.wp_signal 𝒱₀ ER (sched m ρ) (c : Thread nD τ) none (dst := (peer k c : Thread nD τ))
      (κ := K (peer k c, .inl ())) (d := k) (by rw [duties_bar]; exact Finset.mem_univ _) rfl () (owe l) (owe_cons (barDue c k) l)) $$ [HO Ht Hs]
  · isplitr; · iexact HI
    isplitl [HO]; · iexact HO
    isplitl [Ht]; · iexact Ht
    isplitl [Hs]
    · rw [payload_bar]; unfold barPay; rw [peer_rev]; iexists f; iexact Hs
    iexact HR
  iintro HO
  iapply Hk; iexists W; iexact HO

/-- The wait on the barrier: every peer's slot for device `c` is now its to write, and the barrier is done with. -/
theorem step_barrier {α : Type} {Kt : α → sProp 𝕄} {p : PUnit → Prog (TpuEff nD τ sig (Elt F) Λ₀ .tc) α}
    (c : Dev nD) (a : ℕ) (ha : a = 3) :
    iprop(cellInv ER (sched m ρ) (K (c, .inl ())) (barCell c) ∗ levAts L lv ∗ dues c (copies c)
        ∗ cred (tallyAt (barCell c) () 3) ∗ atPos ER (barCell c) 0 ∅ 0)
      ⊢ iprop(((dues c (copies c) ∗ semVal (barCell c) 0 ∗ bigSep Finset.univ fun k => barPay (F := F) c k)
            -∗ wp frame (wpE (defs₀ (F := F)) 𝒱₀ (c : Thread nD τ) none) Set.univ (p ⟨⟩) Kt)
          -∗ wp frame (wpE (defs₀ (F := F)) 𝒱₀ (c : Thread nD τ) none) Set.univ (.op (.semWait barS a) p) Kt) := by
  subst ha
  unfold dues
  iintro ⟨#HI, #Hlev, ⟨%W, HO⟩, Hc, Hat⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := owe (copies c)) (W := W) (R := 0) (m := 0) (T := ∅)
      (by rw [expect_bar])) $$ [HO Hc Hat]
  · isplitr; · iexact HI
    isplitl [Hc]; · iexact Hc
    isplitl [HO]; · iexact HO
    isplitr; · iapply (may_wait_bar c); iexact Hlev
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- Every slot counts for the same. -/
theorem slot_credit (s : Fin 4) : (slotM s).view.dmaCredit = N := rfl

/-- What lands in peer `k`'s slot for device `c` is that device's row sums. -/
theorem copy_lands (c : Dev nD) (k : Fin 3) (f : (cc0_scratch0 : Ref sig .tc).ty.Contents (Elt F)) :
    ((slotM k.rev.succ).view.loc (peer k c : Thread nD τ) ↦[(slotM k.rev.succ).view.set]{fullShare}
        (slotM k.rev.succ).view.write (Elt F) f ((slotM 0).view.read (Elt F) (fill (sums m ρ c))) Finset.univ : sProp 𝕄)
      ⊢ (sched m ρ).payload (recvCell (peer k c) k.rev) 0 0 := by
  rw [payload_recv]; unfold recvPay; rw [peer_rev]
  exact Entails.of_eq (slotPts_congr (peer k c) k.rev.succ fullShare (copy_fill 0 k.rev.succ f (sums m ρ c)))

/-- The copy of slot 0 to peer `k`, where it lands in the slot kept for device `c`. -/
theorem step_copy {α : Type} {Kt : α → sProp 𝕄} {p : PUnit → Prog (TpuEff nD τ sig (Elt F) Λ₀ .tc) α}
    (c : Dev nD) (k : Fin 3) (n : Dev nD) (hn : n = peer k c) (l : List (GSem nD τ sig × ℕ))
    {hsc : (slotM k.rev.succ : Memref sig (Dev.tc n : Thread nD τ).2.kind .vmem S8x128 .f32).view.ref.isScScratch = false}
    {hsrc : (slotM 0).view.WordExact} {hdst : (slotM k.rev.succ).view.WordExact}
    {hsem : DmaTarget.Typed .vmem (.dma (recvS k.rev)) (.remote (Dev.tc n : Thread nD τ) (slotM k.rev.succ) (.dma (sendS k)) hsc)} :
    iprop(laneInv m ρ K c k ∗ dues c (copyDue c k :: l) ∗ dutyTok ER (sendCell c k) 0 0 ∗ dutyTok ER (recvCell (peer k c) k.rev) 0 0
        ∗ sendPay m ρ c k ∗ barPay (F := F) c k.rev)
      ⊢ iprop(((cred (tallyAt (sendCell c k) () N) ∗ dues c l)
            -∗ wp frame (wpE (defs₀ (F := F)) 𝒱₀ (c : Thread nD τ) none) Set.univ (p ⟨⟩) Kt)
          -∗ wp frame (wpE (defs₀ (F := F)) 𝒱₀ (c : Thread nD τ) none) Set.univ
              (.op (.enqueueDma (slotM 0) (.remote (Dev.tc n : Thread nD τ) (slotM k.rev.succ) (.dma (sendS k)) hsc)
                (.dma (recvS k.rev)) hsrc hdst hsem) p) Kt) := by
  subst hn
  unfold laneInv dues barPay
  rw [Fin.rev_rev]
  iintro ⟨⟨⟨-, #HIr, #HIs, -⟩, -, #HRr, #HRs⟩, ⟨%W, HO⟩, Hts, Htr, Hsrc, ⟨%f, Hdst⟩⟩ Hk
  unfold sendPay slotPts
  iapply (Rounds.wp_send_pointsTo 𝒱₀ ER (sched m ρ) (c : Thread nD τ) none (c' := (peer k c : Thread nD τ)) (src := slotM 0) (dst := slotM k.rev.succ)
      (sS := .dma (sendS k)) (sem := .dma (recvS k.rev)) (q := Ring.shares3 fullShare k) (fs := fill (sums m ρ c)) (κ₁ := K (c, .inr (.inl k)))
      (κ₂ := K (peer k c, .inr (.inr k.rev))) (r₁ := 0) (r₂ := 0) (d₁ := 0) (d₂ := 0) (fd := f)
      (by rw [duties_send]; exact Finset.mem_singleton_self _) (by rw [duties_recv]; exact Finset.mem_singleton_self _)
      () () N ((View.amount_dma _ _).trans (slot_credit _)) rfl rfl (owe l) (owe_cons (copyDue c k) l) (W := W)
      (by rw [payload_send]; exact BI.Entails.refl _)
      (copy_lands m ρ c k f)) $$ [HO Hts Htr Hsrc Hdst]
  · isplitr; · iexact HIs
    isplitr; · iexact HIr
    isplitl [Hsrc]; · iexact Hsrc
    isplitl [Hdst]; · iexact Hdst
    isplitl [HO]; · iexact HO
    isplitl [Hts]; · iexact Hts
    isplitr; · iexact HRs
    isplitl [Htr]; · iexact Htr
    iexact HRr
  iintro ⟨Hc, HO⟩
  iapply Hk
  isplitl [Hc]; · iexact Hc
  iexists W; iexact HO

/-- The wait for the copy to peer `k` to have left: the part of slot 0 it was read from is back. -/
theorem step_left {α : Type} {Kt : α → sProp 𝕄} {p : PUnit → Prog (TpuEff nD τ sig (Elt F) Λ₀ .tc) α}
    (c : Dev nD) (k : Fin 3) {src dst : Memref sig .tc .vmem S8x128 .f32} {hsrc : src.view.WordExact}
    {hdst : dst.view.WordExact} (hN : dst.view.dmaCredit = N) :
    iprop(laneInv m ρ K c k ∗ dues (F := F) c [] ∗ cred (tallyAt (sendCell c k) () N) ∗ atPos ER (sendCell c k) 0 ∅ 0)
      ⊢ iprop(((dues c [] ∗ semVal (sendCell c k) 0 ∗ sendPay m ρ c k)
            -∗ wp frame (wpE (defs₀ (F := F)) 𝒱₀ (c : Thread nD τ) none) Set.univ (p ⟨⟩) Kt)
          -∗ wp frame (wpE (defs₀ (F := F)) 𝒱₀ (c : Thread nD τ) none) Set.univ
              (.op (.waitDma2 (sendS k) src dst hsrc hdst) p) Kt) := by
  unfold laneInv dues
  iintro ⟨⟨⟨-, -, #HI, -⟩, -⟩, ⟨%W, HO⟩, Hc, Hat⟩ Hk
  rw [← hN]
  iapply (Rounds.wp_wait_rest_token 𝒱₀ ER (sched m ρ) (c : Thread nD τ) none (κ := K (c, .inr (.inl k)))
      (wpE_waitDma2_eq 𝒱₀ (c : Thread nD τ) none Set.univ) (Set.mem_univ _) () (O := owe []) (W := W) (R := 0) (m := 0) (T := ∅)
      (by rw [Nat.zero_add, expect_send, hN])) $$ [HO Hc Hat]
  · isplitr; · iexact HI
    isplitl [Hc]; · iexact Hc
    isplitl [HO]; · iexact HO
    isplitr; · rw [show owe [] = (0 : CellTallies nD τ sig Unit) from rfl, MayWait_zero]; iempintro
    iexact Hat
  iintro ⟨HO, Hat, -, Hpay⟩
  ihave Hp := (Entails.of_eq (rest_send m ρ c k)) $$ Hpay
  imod (Rounds.cell_close ER (sched m ρ) (Set.mem_univ (K (c, .inr (.inl k)))) (fun h => h) (R := 0 + 1) (duties_later m ρ (sendCell c k))) $$ [Hat] with Hz
  · isplitr; · iexact HI
    iexact Hat
  iapply Hk
  isplitl [HO]; · iexists _; iexact HO
  isplitl [Hz]; · iexact Hz
  iexact Hp

/-- The wait for the copy from peer `k` to have arrived: slot `k + 1` holds that peer's row sums. -/
theorem step_arrived {α : Type} {Kt : α → sProp 𝕄} {p : PUnit → Prog (TpuEff nD τ sig (Elt F) Λ₀ .tc) α}
    (c : Dev nD) (k : Fin 3) {src dst : Memref sig .tc .vmem S8x128 .f32} {hsrc : src.view.WordExact}
    {hdst : dst.view.WordExact} (hN : dst.view.dmaCredit = N) :
    iprop(laneInv m ρ K c k ∗ dues (F := F) c [] ∗ cred (tallyAt (recvCell c k) () N) ∗ atPos ER (recvCell c k) 0 ∅ 0)
      ⊢ iprop(((dues c [] ∗ semVal (recvCell c k) 0 ∗ recvPay m ρ c k)
            -∗ wp frame (wpE (defs₀ (F := F)) 𝒱₀ (c : Thread nD τ) none) Set.univ (p ⟨⟩) Kt)
          -∗ wp frame (wpE (defs₀ (F := F)) 𝒱₀ (c : Thread nD τ) none) Set.univ
              (.op (.waitDma2 (recvS k) src dst hsrc hdst) p) Kt) := by
  unfold laneInv dues
  iintro ⟨⟨⟨-, -, -, #HI⟩, -⟩, ⟨%W, HO⟩, Hc, Hat⟩ Hk
  rw [← hN]
  iapply (Rounds.wp_wait_rest_token 𝒱₀ ER (sched m ρ) (c : Thread nD τ) none (κ := K (c, .inr (.inr k)))
      (wpE_waitDma2_eq 𝒱₀ (c : Thread nD τ) none Set.univ) (Set.mem_univ _) () (O := owe []) (W := W) (R := 0) (m := 0) (T := ∅)
      (by rw [Nat.zero_add, expect_recv, hN])) $$ [HO Hc Hat]
  · isplitr; · iexact HI
    isplitl [Hc]; · iexact Hc
    isplitl [HO]; · iexact HO
    isplitr; · rw [show owe [] = (0 : CellTallies nD τ sig Unit) from rfl, MayWait_zero]; iempintro
    iexact Hat
  iintro ⟨HO, Hat, -, Hpay⟩
  ihave Hp := (Entails.of_eq (rest_recv m ρ c k)) $$ Hpay
  imod (Rounds.cell_close ER (sched m ρ) (Set.mem_univ (K (c, .inr (.inr k)))) (fun h => h) (R := 0 + 1) (duties_later m ρ (recvCell c k))) $$ [Hat] with Hz
  · isplitr; · iexact HI
    iexact Hat
  iapply Hk
  isplitl [HO]; · iexists _; iexact HO
  isplitl [Hz]; · iexact Hz
  iexact Hp

/-- A load of a slot gives what stands there. -/
theorem step_load {α : Type} {Kt : α → sProp 𝕄} {p : Vec F S1x8x128 .f32 → Prog (TpuEff nD τ sig (Elt F) Λ₀ .tc) α}
    (c : Dev nD) (s : Fin 4) (q : PosShare TreeShare) (f : (cc0_scratch0 : Ref sig .tc).ty.Contents (Elt F))
    (v : Vec F S1x8x128 .f32) (hv : scrM.view.readAt (Elt F) (slotR s).toLoadRect f = v) {h : scrM.view.LoadsAt (slotR s).toLoadRect} :
    (slotPts c s q f : sProp 𝕄)
      ⊢ iprop((slotPts c s q f -∗ wp frame (wpE (defs₀ (F := F)) 𝒱₀ (c : Thread nD τ) none) Set.univ (p v) Kt)
          -∗ wp frame (wpE (defs₀ (F := F)) 𝒱₀ (c : Thread nD τ) none) Set.univ
              (.op (.load scrM (slotR s).toLoadRect h) p) Kt) := by
  rw [slotPts_eq]
  iintro H Hk
  iapply (wp_load 𝒱₀ (c : Thread nD τ) none Set.univ (m := scrM) (by exact (Finset.map_refl (s := (slotR s).set)).le)) $$ H
  rw [hv]
  iexact Hk

/-- A store of `v` to a slot leaves the elements of `v` there. -/
theorem step_store {α : Type} {Kt : α → sProp 𝕄} {p : PUnit → Prog (TpuEff nD τ sig (Elt F) Λ₀ .tc) α}
    (c : Dev nD) (s : Fin 4) (f : (cc0_scratch0 : Ref sig .tc).ty.Contents (Elt F)) (v : Vec F S1x8x128 .f32)
    {h : (scrM.access (slotR s)).Stores Finset.univ} {h'} :
    (slotPts c s fullShare f : sProp 𝕄)
      ⊢ iprop((slotPts c s fullShare (fill v) -∗ wp frame (wpE (defs₀ (F := F)) 𝒱₀ (c : Thread nD τ) none) Set.univ (p ⟨⟩) Kt)
          -∗ wp frame (wpE (defs₀ (F := F)) 𝒱₀ (c : Thread nD τ) none) Set.univ
              (.op (.store scrM (slotR s) v Finset.univ h h') p) Kt) := by
  rw [slotPts_eq, slotPts_eq]
  iintro H Hk
  iapply (wp_store 𝒱₀ (c : Thread nD τ) none Set.univ (m := scrM) (r := slotR s) (Mk := Finset.univ)
    (by rw [View.setOn_univ, View.set_slice_whole])) $$ H
  iintro H
  iapply Hk
  iapply (Entails.of_eq (pointsTo_congr (store_fill s f v)))
  iexact H

end Rules

end Cert.KernelIdeal.Softmax

end
-- ==== Proof.Body.lean ====
/-
# One device's run of the kernel

The kernel body at any device `c`, step by step: exponentials and row sums stored, the three signals, the barrier,
the three copies, the six waits, the four slots read and the quotient stored.
-/
module

public import proofs.«01_k».proof.Proof.Steps

@[expose] public section

noncomputable section

namespace Cert.KernelIdeal.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Three conjuncts, one for each peer. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
/-- Four conjuncts, one for each slot. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A slot held whole is three thirds of it. -/
theorem slot_thirds (c : Dev nD) (s : Fin 4) (f : (cc0_scratch0 : Ref sig .tc).ty.Contents (Elt F)) :
    (slotPts c s fullShare f : sProp 𝕄) ⊣⊢ iprop(slotPts c s (Ring.shares3 fullShare 0) f
      ∗ slotPts c s (Ring.shares3 fullShare 1) f ∗ slotPts c s (Ring.shares3 fullShare 2) f) := by
  rw [slotPts_eq, slotPts_eq, slotPts_eq, slotPts_eq]
  exact Ring.pointsTo_thirds (ℓ := (c : Thread nD τ).loc cc0_scratch0) (I := (slotR s).set) fullShare f

/-! ## What the body starts from and ends with -/

/-- What device `c` holds of the exchange: its barrier, its dealings with each peer, and the unused semaphore. -/
def ghost (K : Dev nD × CellIx → ℕ) (c : Dev nD) : sProp 𝕄 :=
  iprop(cellInv ER (sched m ρ) (K (c, .inl ())) (barCell c) ∗ atPos ER (barCell c) 0 ∅ 0
    ∗ (bigSep Finset.univ fun k => iprop(laneInv m ρ K c k ∗ laneTok c k))
    ∗ semVal ((c : Thread nD τ), .dma idleS) 0)

/-- What it may wait for: the three units of its barrier and the copy of each peer. -/
def credits (c : Dev nD) : sProp 𝕄 :=
  iprop(cred (tallyAt (barCell c) () 3) ∗ bigSep Finset.univ fun k => cred (tallyAt (recvCell c k) () N))

def start (c : Dev nD) : sProp 𝕄 := iprop((∃ K, ghost m ρ K c) ∗ credits (F := F) c ∗ levAts L lv)

/-- The scratch with some contents. -/
def scratch (c : Dev nD) : sProp 𝕄 :=
  iprop(∃ f : (cc0_scratch0 : Ref sig .tc).ty.Contents (Elt F), ((c : Thread nD τ).loc cc0_scratch0) ↦{fullShare} f)

/-- Every semaphore of device `c` at zero again: the unused one, the barrier, and two for each peer. -/
def zeros (c : Dev nD) : sProp 𝕄 :=
  iprop((semVal ((c : Thread nD τ), .dma idleS) 0
      ∗ (bigSep Finset.univ fun k => semVal (sendCell c k) 0) ∗ bigSep Finset.univ fun k => semVal (recvCell c k) 0)
    ∗ semVal (barCell c) 0)

def Φ₀ (c : Dev nD) : sProp 𝕄 := iprop(start m ρ c ∗ scratch (F := F) c)
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owe (todo c)
    | ⟨_ + 1, _⟩ => 0

/-- A staging buffer held whole, at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Loads and stores of the two staging buffers -/

theorem hz : (![0, 0] : Fin 2 → Nat) = fun _ => 0 := funext fun a => by fin_cases a <;> rfl

abbrev r0 : Rect S1024x1024 := Rect.unit (s := S1024x1024) ![0, 0] S1024x1024.size inb_S1024x1024_S1024x1024_0_0

/-- A load of the input buffer gives all of it, -/
theorem read_in (f : (cc0_stg0_0 : Ref sig .tc).ty.Contents (Elt F)) : inM.view.readAt (Elt F) r0.toLoadRect f = f :=
  Memref.readAt_unit_zero (Elt F) cc0_stg0_0 hz _ f
/-- so does one of the output buffer, -/
theorem read_out (f : (cc0_stg1_0 : Ref sig .tc).ty.Contents (Elt F)) : outM.view.readAt (Elt F) r0.toLoadRect f = f :=
  Memref.readAt_unit_zero (Elt F) cc0_stg1_0 hz _ f
/-- and a store to it replaces all of it. -/
theorem write_out (f w : (cc0_stg1_0 : Ref sig .tc).ty.Contents (Elt F)) :
    (outM.access r0 : View sig .tc _ _ _).write (Elt F) f w Finset.univ = w :=
  Memref.write_access_unit_zero_univ (Elt F) cc0_stg1_0 hz _ f w

/-! ## The body -/

def bodyPre (K : Dev nD × CellIx → ℕ) (c : Dev nD) : sProp 𝕄 :=
  iprop((ghost m ρ K c ∗ credits (F := F) c ∗ levAts L lv ∗ scratch (F := F) c) ∗ dues (F := F) c (todo c)
    ∗ (((c : Thread nD τ).loc cc0_stg0_0) ↦{fullShare} xstg m ρ c)
    ∗ (∃ f : (cc0_stg1_0 : Ref sig .tc).ty.Contents (Elt F), ((c : Thread nD τ).loc cc0_stg1_0) ↦{fullShare} f))

def bodyPost (c : Dev nD) : sProp 𝕄 :=
  iprop(Φ₁ (F := F) c ∗ dues (F := F) c []
    ∗ (((c : Thread nD τ).loc cc0_stg0_0) ↦{fullShare} xstg m ρ c)
    ∗ (((c : Thread nD τ).loc cc0_stg1_0) ↦{fullShare} outAt m ρ c))

set_option maxHeartbeats 1000000 in
/-- The body run from what it starts with ends with the result in the output buffer, the input as it was, the scratch
    whole and every semaphore at zero. -/
theorem sound_body (K : Dev nD × CellIx → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost credits scratch
  simp only [bigSep_fin3]
  iintro ⟨⟨⟨⟨#HI, HatB, ⟨⟨#HL0, HT0⟩, ⟨#HL1, HT1⟩, ⟨#HL2, HT2⟩⟩, Hidle⟩, ⟨HcB, Hc0, Hc1, Hc2⟩, #Hlev, ⟨%f, Hscr⟩⟩, HO, Hx, ⟨%g, Hout⟩⟩, Hk⟩
  unfold laneTok
  icases HT0 with ⟨⟨HtB0, HtR0, HtS0⟩, HaS0, HaR0⟩
  icases HT1 with ⟨⟨HtB1, HtR1, HtS1⟩, HaS1, HaR1⟩
  icases HT2 with ⟨⟨HtB2, HtR2, HtS2⟩, HaS2, HaR2⟩
  ihave Hsl := (Entails.of_eq ((scratch_slots c f).trans (bigSep_fin4 _))) $$ Hscr
  icases Hsl with ⟨Hs0, Hs1, Hs2, Hs3⟩
  -- the exponentials and the row sums
  iapply (wp_load 𝒱₀ (c : Thread nD τ) none Set.univ (m := inM) (Finset.subset_univ _)) $$ Hx; iintro Hx
  rw [read_in]
  iapply (wp_load 𝒱₀ (c : Thread nD τ) none Set.univ (m := outM) (Finset.subset_univ _)) $$ Hout; iintro Hout
  iapply (wp_store 𝒱₀ (c : Thread nD τ) none Set.univ (m := outM) (r := r0) (Mk := Finset.univ) (Finset.subset_univ _)) $$ Hout; iintro Hout
  rw [write_out]
  iapply (step_load c 0 fullShare f _ rfl) $$ Hs0; iintro Hs0
  iapply (step_store c 0 f (sums m ρ c)) $$ Hs0; iintro Hs0
  -- the three signals
  iapply (step_signal m ρ K c 0 _ (dev1_eq c) _ (by decide) (barDue c 1 :: barDue c 2 :: copies c) f) $$ [HO HtB0 Hs1]
  · isplitr; · iexact HL0
    isplitl [HO]; · iexact HO
    isplitl [HtB0]; · iexact HtB0
    iexact Hs1
  iintro HO
  iapply (step_signal m ρ K c 1 _ (dev2_eq c) _ (by decide) (barDue c 2 :: copies c) f) $$ [HO HtB1 Hs2]
  · isplitr; · iexact HL1
    isplitl [HO]; · iexact HO
    isplitl [HtB1]; · iexact HtB1
    iexact Hs2
  iintro HO
  iapply (step_signal m ρ K c 2 _ (dev3_eq c) _ (by decide) (copies c) f) $$ [HO HtB2 Hs3]
  · isplitr; · iexact HL2
    isplitl [HO]; · iexact HO
    isplitl [HtB2]; · iexact HtB2
    iexact Hs3
  iintro HO
  -- the barrier
  iapply (step_barrier m ρ K c _ (by decide)) $$ [HO HcB HatB]
  · isplitr; · iexact HI
    isplitr; · iexact Hlev
    isplitl [HO]; · iexact HO
    isplitl [HcB] <;> iassumption
  iintro ⟨HO, HzB, Hp⟩
  ihave Hp' := (Entails.of_eq (bigSep_fin3 (fun k => barPay (F := F) c k))) $$ Hp
  icases Hp' with ⟨Hp0, Hp1, Hp2⟩
  -- the three copies, each reading a third of slot 0
  ihave Hth := (slot_thirds c 0 (fill (sums m ρ c))).1 $$ Hs0
  icases Hth with ⟨Hq0, Hq1, Hq2⟩
  iapply (step_copy m ρ K c 0 _ (dev4_eq c) [copyDue c 1, copyDue c 2]) $$ [HO HtS0 HtR0 Hq0 Hp2]
  · isplitr; · iexact HL0
    isplitl [HO]; · iexact HO
    isplitl [HtS0]; · iexact HtS0
    isplitl [HtR0]; · iexact HtR0
    isplitl [Hq0]; · (unfold sendPay; iexact Hq0)
    iexact Hp2
  iintro ⟨Hd0, HO⟩
  iapply (step_copy m ρ K c 1 _ (dev5_eq c) [copyDue c 2]) $$ [HO HtS1 HtR1 Hq1 Hp1]
  · isplitr; · iexact HL1
    isplitl [HO]; · iexact HO
    isplitl [HtS1]; · iexact HtS1
    isplitl [HtR1]; · iexact HtR1
    isplitl [Hq1]; · (unfold sendPay; iexact Hq1)
    iexact Hp1
  iintro ⟨Hd1, HO⟩
  iapply (step_copy m ρ K c 2 _ (dev6_eq c) []) $$ [HO HtS2 HtR2 Hq2 Hp0]
  · isplitr; · iexact HL2
    isplitl [HO]; · iexact HO
    isplitl [HtS2]; · iexact HtS2
    isplitl [HtR2]; · iexact HtR2
    isplitl [Hq2]; · (unfold sendPay; iexact Hq2)
    iexact Hp0
  iintro ⟨Hd2, HO⟩
  -- the waits: the copy to peer 0 gone and that peer's arrived, and so on
  iapply (step_left m ρ K c 0 (slot_credit 0)) $$ [HO Hd0 HaS0]
  · isplitr; · iexact HL0
    isplitl [HO]; · iexact HO
    isplitl [Hd0] <;> iassumption
  iintro ⟨HO, HzS0, Hq0⟩
  iapply (step_arrived m ρ K c 2 (slot_credit 3)) $$ [HO Hc2 HaR2]
  · isplitr; · iexact HL2
    isplitl [HO]; · iexact HO
    isplitl [Hc2] <;> iassumption
  iintro ⟨HO, HzR2, Hs3⟩
  iapply (step_left m ρ K c 1 (slot_credit 0)) $$ [HO Hd1 HaS1]
  · isplitr; · iexact HL1
    isplitl [HO]; · iexact HO
    isplitl [Hd1] <;> iassumption
  iintro ⟨HO, HzS1, Hq1⟩
  iapply (step_arrived m ρ K c 1 (slot_credit 2)) $$ [HO Hc1 HaR1]
  · isplitr; · iexact HL1
    isplitl [HO]; · iexact HO
    isplitl [Hc1] <;> iassumption
  iintro ⟨HO, HzR1, Hs2⟩
  iapply (step_left m ρ K c 2 (slot_credit 0)) $$ [HO Hd2 HaS2]
  · isplitr; · iexact HL2
    isplitl [HO]; · iexact HO
    isplitl [Hd2] <;> iassumption
  iintro ⟨HO, HzS2, Hq2⟩
  iapply (step_arrived m ρ K c 0 (slot_credit 1)) $$ [HO Hc0 HaR0]
  · isplitr; · iexact HL0
    isplitl [HO]; · iexact HO
    isplitl [Hc0] <;> iassumption
  iintro ⟨HO, HzR0, Hs1⟩
  -- slot 0 whole again, and the four slots read
  unfold sendPay recvPay
  rw [show (0 : Fin 3).succ = (1 : Fin 4) from rfl, show (1 : Fin 3).succ = (2 : Fin 4) from rfl, show (2 : Fin 3).succ = (3 : Fin 4) from rfl]
  ihave Hs0 := (slot_thirds c 0 (fill (sums m ρ c))).2 $$ [Hq0 Hq1 Hq2]
  · isplitl [Hq0]; · iexact Hq0
    isplitl [Hq1] <;> iassumption
  iapply (step_load c 0 fullShare _ _ (readAt_fill 0 (sums m ρ c))) $$ Hs0; iintro Hs0
  iapply (step_load c 1 fullShare _ _ (readAt_fill 1 (sums m ρ (peer 0 c)))) $$ Hs1; iintro Hs1
  iapply (step_load c 2 fullShare _ _ (readAt_fill 2 (sums m ρ (peer 1 c)))) $$ Hs2; iintro Hs2
  iapply (step_load c 3 fullShare _ _ (readAt_fill 3 (sums m ρ (peer 2 c)))) $$ Hs3; iintro Hs3
  -- the quotient
  iapply (wp_load 𝒱₀ (c : Thread nD τ) none Set.univ (m := outM) (Finset.subset_univ _)) $$ Hout; iintro Hout
  rw [read_out]
  iapply (wp_load 𝒱₀ (c : Thread nD τ) none Set.univ (m := outM) (Finset.subset_univ _)) $$ Hout; iintro Hout
  iapply (wp_store 𝒱₀ (c : Thread nD τ) none Set.univ (m := outM) (r := r0) (Mk := Finset.univ) (Finset.subset_univ _)) $$ Hout; iintro Hout
  rw [write_out, wp_ret]; imodintro
  iapply Hk
  unfold bodyPost Φ₁ zeros
  simp only [bigSep_fin3]
  isplitl [Hs0 Hs1 Hs2 Hs3 Hidle HzS0 HzS1 HzS2 HzR0 HzR1 HzR2 HzB]
  · isplitl [Hs0 Hs1 Hs2 Hs3]
    · unfold scratch
      iapply (slots_scratch c ![fill (sums m ρ c), fill (sums m ρ (peer 0 c)), fill (sums m ρ (peer 1 c)), fill (sums m ρ (peer 2 c))])
      rw [bigSep_fin4]
      isplitl [Hs0]; · iexact Hs0
      isplitl [Hs1]; · iexact Hs1
      isplitl [Hs2]; · iexact Hs2
      iexact Hs3
    isplitl [Hidle HzS0 HzS1 HzS2 HzR0 HzR1 HzR2]
    · isplitl [Hidle]; · iexact Hidle
      isplitl [HzS0 HzS1 HzS2]
      · isplitl [HzS0]; · iexact HzS0
        isplitl [HzS1] <;> iassumption
      isplitl [HzR0]; · iexact HzR0
      isplitl [HzR1] <;> iassumption
    iexact HzB
  isplitl [HO]; · iexact HO
  isplitl [Hx]; · iexact Hx
  iexact Hout

/-! ## The library's form of it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

theorem bigSep_W (Φ : Fin cfg0.W → sProp 𝕄) : bigSep Finset.univ Φ = iprop(Φ (0 : Fin 2) ∗ Φ (1 : Fin 2)) := bigSep_W0 Φ

/-- The body as the pipeline calls it: the input block in its buffer, the output buffer to be filled. -/
theorem body_obligation (c : Dev nD) : BodyObligation (dats (F := F) m ρ 0 c) (defs₀ (F := F)) 𝒱₀ () Set.univ := fun t => by
  rw [fin_N t, bigSep_W, bigSep_W]
  simp only [owns_whole_eq]
  show iprop(Φ₀ m ρ c ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2)
      (fun _ => iprop(Φ₁ (F := F) c ∗ (dats m ρ 0 c).owesAt () t₀.succ ∗ stg c cc0_stg0_0 (xstg m ρ c) ∗ stg c cc0_stg1_0 (outAt m ρ c)))
  unfold Φ₀ start Dat.owesAt Pipeline.owesWithin
  iintro ⟨⟨⟨⟨%K, Hg⟩, Hc, Hl⟩, Hs⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (sound_body m ρ K c _)
  unfold bodyPre
  isplitr []
  · isplitl [Hg Hc Hl Hs]
    · isplitl [Hg]; · iexact Hg
      isplitl [Hc]; · iexact Hc
      isplitl [Hl] <;> iassumption
    isplitl [HO]; · unfold dues; iexists W; iexact HO
    isplitl [Hx]; · iexact Hx
    iexists g1; iexact Hout
  · unfold bodyPost dues
    iintro ⟨HΦ, ⟨%W', HO⟩, Hx, Hout⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Cert.KernelIdeal.Softmax

end
-- ==== Proof.Launch.lean ====
/-
# The launch

The four devices started together: the cells and their rights are made, each right is given to the device that spends
it, each device gets what it may wait for, and the body's run on every device gives the run of the whole program.
-/
module

public import proofs.«01_k».proof.Proof.Body
public import Idealize.ShloMosaic.Lib.Pipeline.CollectiveSegs

@[expose] public section

noncomputable section

namespace Cert.KernelIdeal.Softmax

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- One conjunct for each cell of a device: the barrier's, the send semaphores' and the receive semaphores'. -/
theorem bigSep_cells (Φ : CellIx → sProp 𝕄) : bigSep Finset.univ Φ
    = iprop(Φ (.inl ()) ∗ (bigSep Finset.univ fun k => Φ (.inr (.inl k))) ∗ bigSep Finset.univ fun k => Φ (.inr (.inr k))) := by
  rw [bigSep_univ_sum, bigSep_univ_sum, bigSep_univ_eq_bigSepL (I := Unit) [()] (by decide) (by decide)]; rfl

theorem csem_injective : Function.Injective csem := by
  rintro (_ | k | k) (_ | k' | k') h
  · rfl
  · cases h
  · cases h
  · cases h
  · have h' : 2 + k.val = 2 + k'.val := congrArg (fun | .dma q => q.val | .reg _ => 0) h
    have e : k = k' := Fin.ext (by omega)
    rw [e]
  · have h' : 2 + k.val = 6 + k'.val := congrArg (fun | .dma q => q.val | .reg _ => 0) h
    have := k.isLt; omega
  · cases h
  · have h' : 6 + k.val = 2 + k'.val := congrArg (fun | .dma q => q.val | .reg _ => 0) h
    have := k'.isLt; omega
  · have h' : 6 + k.val = 6 + k'.val := congrArg (fun | .dma q => q.val | .reg _ => 0) h
    have e : k = k' := Fin.ext (by omega)
    rw [e]

/-- Two cells with the same semaphore of the same device are the same. -/
theorem kcell_injective : Function.Injective kcell := by
  rintro ⟨c, i⟩ ⟨c', i'⟩ h
  have hc : c = c' := congrArg (fun g : GSem nD τ sig => g.1.1) h
  have hi : i = i' := csem_injective (congrArg Prod.snd h)
  rw [hc, hi]

def allCells : Finset (GSem nD τ sig) := Finset.univ.map ⟨kcell, kcell_injective⟩

/-- A device's rights as they are made: three for its barrier, one for each of its other semaphores. -/
abbrev TokIx : Type := Fin 3 ⊕ Fin 3 ⊕ Fin 3

abbrev tokCell : TokIx → CellIx × Fin 3
  | .inl k => (.inl (), k)
  | .inr (.inl k) => (.inr (.inl k), 0)
  | .inr (.inr k) => (.inr (.inr k), 0)
abbrev tokOf (ct : Dev nD × TokIx) : GSem nD τ sig × ℕ × Fin 3 := (kcell (ct.1, (tokCell ct.2).1), 0, (tokCell ct.2).2)

theorem tokOf_injective : Function.Injective tokOf := by
  rintro ⟨c, t⟩ ⟨c', t'⟩ h
  have hk : ((c, (tokCell t).1) : Dev nD × CellIx) = (c', (tokCell t').1) := kcell_injective (congrArg Prod.fst h)
  have hc : c = c' := congrArg Prod.fst hk
  have ht : tokCell t = tokCell t' := Prod.ext (congrArg Prod.snd hk) (congrArg (fun x => x.2.2) h)
  have hinj : Function.Injective tokCell := by decide
  have : t = t' := hinj ht
  rw [hc, this]

def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The rights for device `c`'s own cells. -/
def toks (c : Dev nD) : sProp 𝕄 :=
  iprop((bigSep Finset.univ fun k => dutyTok ER (barCell c) 0 k) ∗ (bigSep Finset.univ fun k => dutyTok ER (sendCell c k) 0 0)
    ∗ bigSep Finset.univ fun k => dutyTok ER (recvCell c k) 0 0)

/-- What the launch makes for device `c`. -/
def G (c : Dev nD) : sProp 𝕄 :=
  iprop((bigSep Finset.univ fun i => roundState ER (sched m ρ) (kcell (c, i)) 0)
    ∗ (bigSep Finset.univ fun i => atPos ER (kcell (c, i)) 0 ∅ 0) ∗ (bigSep Finset.univ fun i => reached ER (kcell (c, i)) 0) ∗ toks (F := F) c)

/-- What device `c` starts with. -/
def G' (c : Dev nD) : sProp 𝕄 := iprop(∃ K, ghost m ρ K c)

/-- The launch element is all devices' shares of it. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : CellIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores -/

/-- The kernel's own semaphores, the unused one in the barrier's place. -/
abbrev osem : CellIx → SemLoc sig
  | .inl _ => .dma idleS
  | .inr i => csem (.inr i)

theorem ownSemFacts : Pipeline.OwnSemFacts cfg0.spec osem := by decide

/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma idleS) 0
      ∗ (bigSep Finset.univ fun k => semVal (sendCell c k) 0) ∗ bigSep Finset.univ fun k => semVal (recvCell c k) 0) := by
  unfold Pipeline.ownSems0; rw [bigSep_cells]
/-- the one that is not the kernel's own is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All semaphores of a device are its cells' and the unused one. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun i => semVal (kcell (c, i)) 0) ∗ semVal ((c : Thread nD τ), .dma idleS) 0) : sProp 𝕄) := by
  rw [ownSems0_eq, unscopedSems0_eq, bigSep_cells]
  iintro ⟨⟨HI, HS, HV⟩, HB⟩
  isplitr [HI]
  · isplitl [HB]; · iexact HB
    isplitl [HS] <;> iassumption
  iexact HI

/-- What a device's cells become once their invariants are made. -/
def made (c : Dev nD) : sProp 𝕄 :=
  iprop((bigSep Finset.univ fun i => iprop(∃ κ : ℕ, cellInv ER (sched m ρ) κ (kcell (c, i))))
    ∗ (bigSep Finset.univ fun i => atPos ER (kcell (c, i)) 0 ∅ 0) ∗ (bigSep Finset.univ fun i => reached ER (kcell (c, i)) 0)
    ∗ toks (F := F) c ∗ semVal ((c : Thread nD τ), .dma idleS) 0)

/-- Each device's semaphores and rounds give its cells' invariants. -/
theorem make (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  unfold G made
  iintro ⟨Hos, Hus, Hst, Hat, Hr, Htok⟩
  ihave Hv := (sems_split (F := F) c) $$ [Hos Hus]
  · isplitl [Hos] <;> iassumption
  icases Hv with ⟨Hv, Hidle⟩
  imod (show iprop((bigSep Finset.univ fun i => semVal (kcell (c, i)) 0) ∗ bigSep Finset.univ fun i => roundState ER (sched m ρ) (kcell (c, i)) 0)
      ⊢ (|={Set.univ}=> bigSep Finset.univ fun i => iprop(∃ κ : ℕ, cellInv ER (sched m ρ) κ (kcell (c, i))) : sProp 𝕄) from by
        rw [← bigSep_sep']
        exact (bigSep_mono fun i _ => (Rounds.body_intro ER (sched m ρ) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-! ## Each right to the device that spends it -/

/-- What is known for good of all cells. -/
def records (K : Dev nD × CellIx → ℕ) : sProp 𝕄 :=
  iprop((bigSep Finset.univ fun ci => cellInv ER (sched m ρ) (K ci) (kcell ci)) ∗ bigSep Finset.univ fun ci => reached ER (kcell ci) 0)

instance records_persistent (K : Dev nD × CellIx → ℕ) : BI.Persistent (records m ρ K) := by unfold records; infer_instance

/-- A device's rights to spend on its dealings with peer `k`. -/
def spend (c : Dev nD) (k : Fin 3) : sProp 𝕄 :=
  iprop(dutyTok ER (barCell (peer k c)) 0 k ∗ dutyTok ER (recvCell (peer k c) k.rev) 0 0 ∗ dutyTok ER (sendCell c k) 0 0)

/-- A right made for every device is one for every device's peer `k`. -/
theorem bigSep_peer (k : Fin 3) (Φ : Dev nD → sProp 𝕄) : bigSep Finset.univ Φ = bigSep Finset.univ fun c => Φ (peer k c) :=
  bigSep_univ_equiv (turn k) Φ

/-- The rights for all devices' cells, given to the devices that spend them. -/
theorem toks_spend : (bigSep Finset.univ fun c : Dev nD => (toks c : sProp 𝕄))
    ⊢ bigSep Finset.univ fun c : Dev nD => bigSep Finset.univ fun k => spend c k := by
  unfold toks spend
  simp only [bigSep_sep']
  rw [bigSep_univ_comm (fun c k => (dutyTok ER (barCell c) 0 k : sProp 𝕄)), bigSep_congr (fun k _ => bigSep_peer k _),
    bigSep_univ_comm (fun k c => (dutyTok ER (barCell (peer k c)) 0 k : sProp 𝕄)),
    bigSep_univ_comm (fun c k => (dutyTok ER (recvCell c k) 0 0 : sProp 𝕄)),
    bigSep_univ_equiv Fin.revPerm (fun k => bigSep Finset.univ fun c => (dutyTok ER (recvCell c k) 0 0 : sProp 𝕄)),
    bigSep_congr (s := Finset.univ) (fun k _ => bigSep_peer k (fun c => (dutyTok ER (recvCell c (Fin.revPerm k)) 0 0 : sProp 𝕄))),
    bigSep_univ_comm (fun k c => (dutyTok ER (recvCell (peer k c) (Fin.revPerm k)) 0 0 : sProp 𝕄))]
  iintro ⟨HB, HS, HR⟩
  isplitl [HB]; · iexact HB
  isplitl [HR]; · iexact HR
  iexact HS

/-- What only device `c` holds. -/
def linear (c : Dev nD) : sProp 𝕄 :=
  iprop((bigSep Finset.univ fun i => atPos ER (kcell (c, i)) 0 ∅ 0) ∗ (bigSep Finset.univ fun k => spend (F := F) c k)
    ∗ semVal ((c : Thread nD τ), .dma idleS) 0)

/-- The invariant of any one cell, -/
theorem inv_at (K : Dev nD × CellIx → ℕ) (ci : Dev nD × CellIx) : records m ρ K ⊢ (cellInv ER (sched m ρ) (K ci) (kcell ci) : sProp 𝕄) := by
  unfold records; exact (BI.sep_and.trans and_elimL).trans (bigSep_elim (Finset.mem_univ ci))
/-- and that it has begun. -/
theorem reached_at (K : Dev nD × CellIx → ℕ) (ci : Dev nD × CellIx) : records m ρ K ⊢ (reached ER (kcell ci) 0 : sProp 𝕄) := by
  unfold records; exact (BI.sep_and.trans and_elimR).trans (bigSep_elim (Finset.mem_univ ci))

/-- What is known of the dealings with peer `k`. -/
theorem records_lane (K : Dev nD × CellIx → ℕ) (c : Dev nD) (k : Fin 3) : records m ρ K ⊢ laneInv m ρ K c k := by
  unfold laneInv
  iintro #H
  isplitr
  · isplitr; · iapply (inv_at m ρ K (peer k c, .inl ())); iexact H
    isplitr; · iapply (inv_at m ρ K (peer k c, .inr (.inr k.rev))); iexact H
    isplitr; · iapply (inv_at m ρ K (c, .inr (.inl k))); iexact H
    iapply (inv_at m ρ K (c, .inr (.inr k))); iexact H
  isplitr; · iapply (reached_at m ρ K (peer k c, .inl ())); iexact H
  isplitr; · iapply (reached_at m ρ K (peer k c, .inr (.inr k.rev))); iexact H
  iapply (reached_at m ρ K (c, .inr (.inl k))); iexact H

/-- The start of a device's exchange, from what is known for good and what it alone holds. -/
theorem ghost_intro (K : Dev nD × CellIx → ℕ) (c : Dev nD) : iprop(records m ρ K ∗ linear c) ⊢ G' m ρ c := by
  unfold linear G' ghost
  rw [bigSep_cells]
  iintro ⟨#H, ⟨HaB, HaS, HaR⟩, Hsp, Hidle⟩
  iexists K
  isplitr; · iapply (inv_at m ρ K (c, .inl ())); iexact H
  isplitl [HaB]; · iexact HaB
  isplitr [Hidle]
  · iapply (bigSep_with_persistent (S := Finset.univ) (R := records m ρ K)
      (Φ := fun k => iprop(spend (F := F) c k ∗ atPos ER (sendCell c k) 0 ∅ 0 ∗ atPos ER (recvCell c k) 0 ∅ 0))
      (fun k _ => by
        unfold laneTok spend
        iintro ⟨#H, Hr⟩
        isplitr; · iapply (records_lane m ρ K c k); iexact H
        iexact Hr))
    isplitr; · iexact H
    simp only [bigSep_sep']
    isplitl [Hsp]; · iexact Hsp
    isplitl [HaS] <;> iassumption
  iexact Hidle

/-- All devices' cells together are all devices' starts. -/
theorem regroup : (bigSep Finset.univ fun c : Dev nD => made m ρ c : sProp 𝕄) ⊢ bigSep Finset.univ (G' m ρ) := by
  unfold made
  simp only [bigSep_sep']
  rw [← bigSep_univ_prod (fun ci : Dev nD × CellIx => iprop(∃ κ : ℕ, cellInv ER (sched m ρ) κ (kcell ci))),
    ← bigSep_univ_prod (fun ci : Dev nD × CellIx => (reached ER (kcell ci) 0 : sProp 𝕄))]
  iintro ⟨HI, Hat, #HR, Htok, Hidle⟩
  ihave HK := (BI.bigSep_exists_pi Finset.univ (fun (ci : Dev nD × CellIx) (κ : ℕ) => (cellInv ER (sched m ρ) κ (kcell ci) : sProp 𝕄))) $$ HI
  icases HK with ⟨%K, #HI⟩
  ihave Hsp := (toks_spend (F := F)) $$ Htok
  iapply (bigSep_with_persistent (R := records m ρ K) fun c _ => ghost_intro m ρ K c)
  isplitr
  · unfold records; isplitl; · iexact HI
    iexact HR
  unfold linear
  simp only [bigSep_sep']
  isplitl [Hat]; · iexact Hat
  isplitl [Hsp] <;> iassumption

/-- The same from all semaphores of all devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => make m ρ c).trans (bigSep_fupd _ _)).trans (BI.fupd_mono (regroup m ρ))

/-! ## What a device may wait for -/

/-- The due that every device has to its peer `k`'s barrier is one unit for each device's barrier, -/
theorem cred_bar (k : Fin 3) (c : Dev nD) :
    (Pipeline.launchCred (fun d => tallyAt (barDue d k).1 () (barDue d k).2) c : sProp 𝕄) ⊢ cred (tallyAt (barCell c) () 1) :=
  Pipeline.launchCred_tallyAt (.reg barS) (peer k) (peer k.rev) (rev_peer k) (peer_rev k) () 1 c
/-- and the copy that every device owes its peer `k` is one copy from each device's peer `k.rev`. -/
theorem cred_recv (k : Fin 3) (c : Dev nD) :
    (Pipeline.launchCred (fun d => tallyAt (copyDue d k).1 () (copyDue d k).2) c : sProp 𝕄) ⊢ cred (tallyAt (recvCell c k.rev) () N) :=
  Pipeline.launchCred_tallyAt (.dma (recvS k.rev)) (peer k) (peer k.rev) (rev_peer k) (peer_rev k) () N c

/-- All that a device may wait for. -/
theorem creds (c : Dev nD) : (Pipeline.launchCred (fun d => owe (todo d)) c : sProp 𝕄) ⊢ credits c := by
  simp only [owe_cons, Pipeline.launchCred_add]
  unfold credits
  rw [bigSep_fin3]
  iintro ⟨⟨⟨⟨⟨⟨-, HR2⟩, HR1⟩, HR0⟩, HB2⟩, HB1⟩, HB0⟩
  ihave HR2 := (cred_recv 2 c) $$ HR2
  ihave HR1 := (cred_recv 1 c) $$ HR1
  ihave HR0 := (cred_recv 0 c) $$ HR0
  ihave HB2 := (cred_bar 2 c) $$ HB2
  ihave HB1 := (cred_bar 1 c) $$ HB1
  ihave HB0 := (cred_bar 0 c) $$ HB0
  isplitl [HB0 HB1 HB2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [HB0]; · iexact HB0
    iapply (cred_add _ _).2
    isplitl [HB1] <;> iassumption
  isplitl [HR2]; · iexact HR2
  isplitl [HR1]; · iexact HR1
  iexact HR0

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe (todo d)) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, Hz, HzB⟩
  isplitl [HzB]; · iexact HzB
  isplitl [Hz] <;> iassumption

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact may_wait_start c _ (by fin_cases w <;> fin_cases s <;> decide)
    · exact may_wait c _ [] (fun p hp => by cases hp)

def finalA (c : Dev nD) (w : Fin cfg0.W) : Buf (Elt F) ((cfg0.win w).arr.view.loc (c : Thread nD τ)) := (dats m ρ 0 c).arrAt w cfg0.N

/-- Each device's arrays hold what the run computes. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, over any float values: every weakly fair execution of the program on the four devices ends, each
    device's arrays as computed and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe (todo d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is never written. -/
theorem final_in (c : Dev nD) : finalA m ρ c (0 : Fin 2) = m ((c : Thread nD τ).loc main_arg0) :=
  (dats (F := F) m ρ 0 c).arrAt_in (0 : Fin 2) rfl _

end Cert.KernelIdeal.Softmax

end
-- ==== Proof.Exponentials.lean ====
/-
# The arithmetic of the softmax

Over real numbers: a row's exponentials over their sum is not changed by taking the row's maximum from every element
first, and a sum over the whole row is the sum over the four devices' parts, in whatever order a device adds them.
-/
module

public import Idealize.ShloMosaic.Lib.Pointwise

@[expose] public section

noncomputable section

namespace Cert.Softmax

open Idealize.ShloMosaic

/-- A sum of real numbers is the same sum among the extended ones. -/
theorem coe_sum {n : Nat} (y : Fin n → ℝ) : ((∑ k, y k : ℝ) : EReal) = ∑ k, (y k : EReal) := by
  induction n with
  | zero => simp
  | succ n ih => rw [Fin.sum_univ_castSucc, Fin.sum_univ_castSucc, EReal.coe_add, ih]

/-- The maximum of a row of real numbers is a real number. -/
theorem max_real {n : Nat} (hn : 0 < n) (y : Fin n → ℝ) :
    ∃ M : ℝ, Finset.univ.fold max (⊥ : EReal) (fun k => (y k : EReal)) = (M : EReal) := by
  obtain ⟨i, -, h⟩ := Finset.exists_mem_eq_sup (Finset.univ : Finset (Fin n)) ⟨⟨0, hn⟩, Finset.mem_univ _⟩ (fun k => (y k : EReal))
  exact ⟨y i, h⟩

/-- A row's sum of exponentials is positive. -/
theorem sum_exp_pos {n : Nat} (hn : 0 < n) (y : Fin n → ℝ) : 0 < ∑ k, Real.exp (y k) :=
  Finset.sum_pos (fun k _ => Real.exp_pos _) ⟨⟨0, hn⟩, Finset.mem_univ _⟩

/-- What the reference computes from a row of real numbers, whatever number `M` it takes off. -/
theorem shifted {n : Nat} (hn : 0 < n) (y : Fin n → ℝ) (M : ℝ) (l : Fin n) :
    Ideal.div (Ideal.exp ((y l : EReal) - (M : EReal))) (∑ k, Ideal.exp ((y k : EReal) - (M : EReal)))
      = ((Real.exp (y l) / ∑ k, Real.exp (y k) : ℝ) : EReal) := by
  have hs : (∑ k, Ideal.exp ((y k : EReal) - (M : EReal))) = ((∑ k, Real.exp (y k - M) : ℝ) : EReal) := by
    rw [coe_sum]
    exact Finset.sum_congr rfl fun k _ => by rw [← EReal.coe_sub, Ideal.exp_coe]
  have h0 : (∑ k, Real.exp (y k - M)) ≠ 0 := ne_of_gt (sum_exp_pos hn fun k => y k - M)
  rw [hs, Ideal.div_coe h0, ← EReal.coe_sub, Ideal.exp_coe, ← EReal.coe_mul]
  refine congrArg _ ?_
  have h1 : (∑ k, Real.exp (y k - M)) = (∑ k, Real.exp (y k)) / Real.exp M := by
    rw [Finset.sum_div]; exact Finset.sum_congr rfl fun k _ => Real.exp_sub _ _
  have h2 : (∑ k, Real.exp (y k)) ≠ 0 := ne_of_gt (sum_exp_pos hn y)
  rw [h1, Real.exp_sub]
  have h3 := Real.exp_ne_zero M
  field_simp

/-- What the kernel computes from an element and the sum of the exponentials. -/
theorem scaled (a s : ℝ) (hs : s ≠ 0) :
    Ideal.exp (a : EReal) * Ideal.div 1 (s : EReal) = ((Real.exp a / s : ℝ) : EReal) := by
  rw [Ideal.div_coe hs, one_mul, Ideal.exp_coe, ← EReal.coe_mul]
  refine congrArg _ ?_
  rw [mul_one_div]

/-- The column `l` of the part that device `d` holds, in the whole row. -/
def column (d : Fin 4) (l : Fin 1024) : Fin 4096 := ⟨d.val * 1024 + l.val, by omega⟩

/-- A sum over a whole row, part by part. -/
theorem sum_parts (f : Fin 4096 → ℝ) : ∑ k, f k = ∑ d : Fin 4, ∑ l : Fin 1024, f (column d l) := by
  rw [← Fintype.sum_prod_type' (f := fun d l => f (column d l))]
  exact (Fintype.sum_equiv (finProdFinEquiv (m := 4) (n := 1024)) _ _ fun p => congrArg f (Fin.ext (by
    show p.1.val * 1024 + p.2.val = p.2.val + 1024 * p.1.val; omega))).symm

end Cert.Softmax

end
-- ==== Proof.KernelValue.lean ====
/-
# What the kernel leaves in a device's result

The result array of each device read element by element at the ideal values, when the whole input is real numbers.
-/
module

public import proofs.«01_k».proof.Proof.Launch
public import proofs.«01_k».proof.Proof.Exponentials
public import Idealize.ShloMosaic.Lib.Layout

@[expose] public section

noncomputable section

namespace Cert.KernelIdeal.Softmax

open Cert.KernelIdeal Cert.KernelIdeal.Gen Cert.Softmax
open Idealize.ShloMosaic
open Idealize.ShloMosaic.TcCoe

/-! ## The arrays, whole -/

section Arrays

variable {F : FTy → Type} [FloatOps F]
variable (m : (ℓ : Loc nD τ sig) → Buf (Elt F) ℓ) (ρ : Dev nD → PrngReg)

/-- The input block of a device is its whole input array. -/
theorem xstg_eq (c : Dev nD) : xstg m ρ c = m ((c : Thread nD τ).loc main_arg0) :=
  Memref.read_access_unit_zero (Elt F) main_arg0 (funext fun a => by fin_cases a <;> rfl) (fun a => by fin_cases a <;> decide) _

/-- The result array of a device ends as the result block computed for it. -/
theorem final_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> rfl) (fun a => by fin_cases a <;> decide) _).symm.trans h

end Arrays

/-! ## The payloads, element by element -/

/-- Where row `r` lies when the rows are cut in eight parts of 128. -/
abbrev hi (r : Fin 1024) : Fin 8 := ⟨r.val / 128, by omega⟩
abbrev lo (r : Fin 1024) : Fin 128 := ⟨r.val % 128, by omega⟩

/-- A row sum: the exponentials of the row's 1024 elements. -/
theorem sums_at (x : FVec Ideal S1024x1024 .f32) (r : Fin 1024) :
    k0_pay3 (F := Ideal) x (ix3 0 (hi r) (lo r)) = ∑ l : Fin 1024, Ideal.exp (x (ix2 r l)) := by
  have h (a : Fin 8) (b : Fin 128) : k0_pay3 (F := Ideal) x (ix3 0 a b) = ∑ l : Fin 1024, Ideal.exp (x (ix2 ⟨a.val * 128 + b.val, by omega⟩ l)) := by
    pointwise [k0_pay3, k0_pay1]
  rw [h]
  have hr : (⟨(hi r).val * 128 + (lo r).val, by omega⟩ : Fin 1024) = r := Fin.ext (by show r.val / 128 * 128 + r.val % 128 = r.val; omega)
  rw [hr]

/-- The stored exponentials. -/
theorem exps_at (x : FVec Ideal S1024x1024 .f32) (r l : Fin 1024) :
    k0_pay2 (F := Ideal) x (ix2 r l) = Ideal.exp (x (ix2 r l)) := by
  pointwise [k0_pay2, k0_pay1]

/-- The result: the stored exponential times one over the sum of the four row sums. -/
theorem quot_at (s t u v : FVec Ideal S1x8x128 .f32) (e : FVec Ideal S1024x1024 .f32) (r l : Fin 1024) :
    k0_pay4 (F := Ideal) s t u v e (ix2 r l)
      = e (ix2 r l) * Ideal.div 1 (s (ix3 0 (hi r) (lo r)) + t (ix3 0 (hi r) (lo r)) + u (ix3 0 (hi r) (lo r)) + v (ix3 0 (hi r) (lo r))) := by
  pointwise [k0_pay4]

/-! ## The result -/

/-- A device and its three peers are all four devices. -/
theorem sum_peers (f : Dev nD → ℝ) (c : Dev nD) : f c + f (peer 0 c) + f (peer 1 c) + f (peer 2 c) = ∑ d : Fin 4, f d := by
  rw [Fin.sum_univ_four]
  fin_cases c
  · rfl
  · show f 1 + f 2 + f 3 + f 0 = _; ring
  · show f 2 + f 3 + f 0 + f 1 = _; ring
  · show f 3 + f 0 + f 1 + f 2 = _; ring

/-- The part of a whole array that device `c` holds, element by element. -/
theorem part_at (v : (⟨2, ![1024, 4096]⟩ : Shape).Idx → EReal) (c : Fin 4) (r l : Fin 1024) :
    Layout.block ⟨2, ![1024, 1024]⟩ ⟨2, ![1024, 4096]⟩ 1 4 c v (by decide) (ix2 r l) = v (ix2 r (column c l)) := by
  rw [Layout.block_apply]
  refine congrArg v (funext fun a => Fin.ext ?_)
  match a with
  | ⟨0, _⟩ => rfl
  | ⟨1, _⟩ => rfl

/-- When the whole input is the real numbers `y`, device `c` ends with its part of their softmax. -/
theorem kernel_value (m : (ℓ : Loc nD τ sig) → Buf (Elt Ideal) ℓ) (ρ : Dev nD → PrngReg)
    (x : (⟨2, ![1024, 4096]⟩ : Shape).Idx → EReal) (y : Fin 1024 → Fin 4096 → ℝ) (hy : ∀ r k, x (ix2 r k) = (y r k : EReal))
    (hx : ∀ c : Dev nD, m ((c : Thread nD τ).loc main_arg0) = Layout.block ⟨2, ![1024, 1024]⟩ ⟨2, ![1024, 4096]⟩ 1 4 c x (by decide))
    (c : Dev nD) (r l : Fin 1024) :
    outAt m ρ c (ix2 r l) = ((Real.exp (y r (column c l)) / ∑ k, Real.exp (y r k) : ℝ) : EReal) := by
  have hin (d : Dev nD) (l : Fin 1024) : xstg m ρ d (ix2 r l) = (y r (column d l) : EReal) := by
    rw [xstg_eq, hx, part_at, hy]
  have hs (d : Dev nD) : sums m ρ d (ix3 0 (hi r) (lo r)) = ((∑ l : Fin 1024, Real.exp (y r (column d l)) : ℝ) : EReal) := by
    unfold sums
    rw [sums_at, coe_sum]
    exact Finset.sum_congr rfl fun l _ => by rw [hin, Ideal.exp_coe]
  unfold outAt
  rw [quot_at, exps_at, hin, hs, hs, hs, hs, ← EReal.coe_add, ← EReal.coe_add, ← EReal.coe_add,
    sum_peers (fun d => ∑ l : Fin 1024, Real.exp (y r (column d l))) c, ← sum_parts (fun k => Real.exp (y r k)),
    scaled _ _ (ne_of_gt (sum_exp_pos (by decide) (y r)))]

end Cert.KernelIdeal.Softmax

end
-- ==== Proof.ReferenceValue.lean ====
/-
# What the reference computes, and what the precondition says

The reference's result read element by element when the input is real numbers, and the input's being real numbers from
the printed test of finiteness.
-/
module

public import proofs.«01_k».proof.Defs
public import proofs.«01_k».proof.Proof.Exponentials
public import proofs.«01_k».proof.Proof.Gen.ReferenceIdeal.Run
public import Idealize.ShloMosaic.Lib.ReduceAll

@[expose] public section

noncomputable section

namespace Cert.ReferenceIdeal.Softmax

open Cert.ReferenceIdeal Cert.ReferenceIdeal.Gen Cert.Softmax
open Idealize.ShloMosaic

/-- The row maxima, over the whole array. -/
def maxes (x : FVec Ideal S1024x4096 .f32) : FVec Ideal S1024x4096 .f32 :=
  broadcastInDim S1024x4096 ![0, 1] bcast_S1024x1_S1024x4096_0_1 (broadcastInDim S1024x1 ![0] bcast_S1024_S1024x1_0
    (Host.reduce FloatOps.maximumf x (constant S_ .f32 0xFF800000#32) reducesTo_S1024x4096_S1024_d1 h_S_))

/-- The exponentials with the row maxima taken off, -/
def exps (x : FVec Ideal S1024x4096 .f32) : FVec Ideal S1024x4096 .f32 := Host.exp (subf x (maxes x))

/-- and those over their row sums: the reference's result. -/
def result (x : FVec Ideal S1024x4096 .f32) : FVec Ideal S1024x4096 .f32 :=
  Host.divf (exps x) (broadcastInDim S1024x4096 ![0, 1] bcast_S1024x1_S1024x4096_0_1 (broadcastInDim S1024x1 ![0] bcast_S1024_S1024x1_0
    (Host.reduceAdd (exps x) (constant S_ .f32 0x00000000#32) reducesTo_S1024x4096_S1024_d1 h_S_)))

/-- The result on real numbers `y` is their softmax. -/
theorem result_value (x : FVec Ideal S1024x4096 .f32) (y : Fin 1024 → Fin 4096 → ℝ) (hy : ∀ r k, x (ix2 r k) = (y r k : EReal))
    (r : Fin 1024) (k : Fin 4096) : result x (ix2 r k) = ((Real.exp (y r k) / ∑ l, Real.exp (y r l) : ℝ) : EReal) := by
  obtain ⟨M, hM⟩ := max_real (by decide) (y r)
  pointwise [result, exps, maxes]
  rw [show Ideal.ofBits FTy.f32 4286578688#32 = ⊥ from by simp [Ideal.ofBits, Ideal.ieee]]
  simp only [hy, hM]
  exact shifted (by decide) (y r) M k

end Cert.ReferenceIdeal.Softmax

namespace Cert.Pre_finite_KernelIdeal

open Idealize.ShloMosaic

/-- The printed test is 1 only on real numbers. -/
theorem real_of_finite [Facts] (x : FVec Ideal S1024x1024 .f32) (h : fn (F := Ideal) x = fun _ => 1#1) (i : S1024x1024.Idx) :
    ∃ y : ℝ, x i = (y : EReal) := by
  have : Subsingleton S_.Idx := ⟨fun a b => funext fun d => d.elim0⟩
  have hi := Host.reduce_andi_all _ _ _ _ (fun d => d.elim0) (congrFun h _) i
  have hlt : max (x i) (-(x i)) < (⊤ : EReal) := by
    have hc : BitVec.ofBool (decide (max (x i) (-(x i)) < Ideal.ofBits .f32 0x7F800000#32)) = 1#1 := hi
    rw [show Ideal.ofBits .f32 0x7F800000#32 = ⊤ from by simp [Ideal.ofBits, Ideal.ieee]] at hc
    by_contra hn
    rw [decide_eq_false hn] at hc
    exact absurd hc (by decide)
  have h1 : x i ≠ ⊤ := fun e => by rw [e] at hlt; simp at hlt
  have h2 : x i ≠ ⊥ := fun e => by rw [e] at hlt; simp at hlt
  exact ⟨(x i).toReal, (EReal.coe_toReal h1 h2).symm⟩

end Cert.Pre_finite_KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import proofs.«01_k».proof.Proof.Launch
public import Idealize.ShloMosaic.Adequacy
public import Idealize.ShloMosaic.Init

@[expose] public section

noncomputable section

namespace Cert.Proof

open Idealize.ShloMosaic Idealize.SL.Sem
open Cert.Softmax

/-! ## The side conditions of the two printed tests of finiteness -/

instance facts_pre_kernel : Cert.Pre_finite_KernelIdeal.Facts where
  bcast_S_S1024x1024 := by decide
  reducesTo_S1024x1024_S_d0_1 := by decide
  h_S_ := by decide

instance facts_pre_reference : Cert.Pre_finite_ReferenceIdeal.Facts where
  bcast_S_S1024x4096 := by decide
  reducesTo_S1024x4096_S_d0_1 := by decide
  h_S_ := by decide

/-! ## The frames -/

/-- Over any float values, from any memory: the kernel runs to the end, its input unchanged and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0))
      ∧ r.2.sem = fun _ => 0) :=
  (θ_run Cert.KernelIdeal.defs _ _).mono
    (fun _ h => ⟨fun c => (h.1 c (0 : Fin 2)).trans (Cert.KernelIdeal.Softmax.final_in m ρ c), h.2⟩)
    (Cert.KernelIdeal.Softmax.run_main m ρ)

/-- The kernel's body table and its reading over the extended reals are one text: label by label they are the same program. -/
theorem bodies_eq {F : FTy → Type} [FloatOps F] :
    (Cert.Kernel.defs₀ (F := F) : Defs Cert.KernelIdeal.nD Cert.KernelIdeal.τ Cert.KernelIdeal.sig (Elt F) Cert.KernelIdeal.Λ₀)
      = Cert.KernelIdeal.defs₀ := by
  funext p ℓ a
  match p, ℓ, a with
  | .tc, ⟨0, _⟩, (_, _) => rfl
  | .scScalar _, _, _ => rfl
  | .scVector _ _, _, _ => rfl

/-- So are the tables with the pipeline's labels. -/
theorem tables_eq {F : FTy → Type} [FloatOps F] :
    Cert.Kernel.defs (F := F) = Cert.KernelIdeal.defs (F := F) :=
  congrArg (Pipeline.defs Cert.KernelIdeal.pcfgs) bodies_eq

/-- The kernel as written is the same text, at machine floats. -/
theorem frame_kernel : Cert.quiescent_Kernel := fun m ρ _ => by
  rw [tables_eq]
  exact frame_any (F := Bits) m ρ

/-- So does the reference over the extended reals, from any memory. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD, r.2.mem (c.tc.loc Cert.ReferenceIdeal.main_arg0) = m (c.tc.loc Cert.ReferenceIdeal.main_arg0))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

/-! ## The equation -/

/-- When every device's part of the whole array is real numbers, so is the whole array. -/
theorem whole_real (x : (⟨2, ![1024, 4096]⟩ : Shape).Idx → EReal)
    (h : ∀ (c : Fin 4) (r l : Fin 1024), ∃ y : ℝ, x (ix2 r (column c l)) = (y : EReal)) :
    ∃ y : Fin 1024 → Fin 4096 → ℝ, ∀ r k, x (ix2 r k) = (y r k : EReal) := by
  have hk (r : Fin 1024) (k : Fin 4096) : ∃ y : ℝ, x (ix2 r k) = (y : EReal) := by
    have e : column ⟨k.val / 1024, by omega⟩ ⟨k.val % 1024, by omega⟩ = k :=
      Fin.ext (by show k.val / 1024 * 1024 + k.val % 1024 = k.val; omega)
    exact e ▸ h ⟨k.val / 1024, by omega⟩ r ⟨k.val % 1024, by omega⟩
  choose y hy using hk
  exact ⟨y, hy⟩

/-- On finite inputs each device's result is its part of the reference's. -/
theorem equation : Cert.algebraic_KernelIdeal_ReferenceIdeal_pre_finite_KernelIdeal := by
  intro m ρ m' ρ' hfin hpart
  set x := m' ((0 : Dev Cert.ReferenceIdeal.nD).tc.loc Cert.ReferenceIdeal.main_arg0) with hx
  obtain ⟨y, hy⟩ := whole_real x fun c r l => by
    obtain ⟨y, hy⟩ := Cert.Pre_finite_KernelIdeal.real_of_finite _ (hfin c) (ix2 r l)
    exact ⟨y, by rw [← hy, hpart c]; exact (Cert.KernelIdeal.Softmax.part_at x c r l).symm⟩
  refine ⟨Cert.ReferenceIdeal.Softmax.result x, ?_, ?_⟩
  · refine (θ_run Cert.KernelIdeal.defs _ _).mono (fun r h c => ⟨?_, (h.1 c (0 : Fin 2)).trans (Cert.KernelIdeal.Softmax.final_in m ρ c)⟩)
      (Cert.KernelIdeal.Softmax.run_main (F := Ideal) m ρ)
    refine ((h.1 c (1 : Fin 2)).trans (Cert.KernelIdeal.Softmax.final_out m ρ c)).trans (funext fun i => ?_)
    obtain ⟨a, b, rfl⟩ : ∃ a b : Fin 1024, i = ix2 a b := ⟨i 0, i 1, by funext d; fin_cases d <;> rfl⟩
    exact (Cert.KernelIdeal.Softmax.kernel_value m ρ x y hy hpart c a b).trans
      ((Cert.ReferenceIdeal.Softmax.result_value x y hy a (column c b)).symm.trans
        (Cert.KernelIdeal.Softmax.part_at (Cert.ReferenceIdeal.Softmax.result x) c a b).symm)
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts, facts_pre_kernel, facts_pre_reference,
    frame_kernel, fun m ρ _ => frame_any m ρ, fun m ρ _ => frame_any m ρ, fun m ρ _ => frame_reference m ρ,
    fun m ρ _ => frame_reference m ρ, trivial, equation⟩

end Cert.Proof

end
